-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x16384 : Shape := ⟨2, ![512, 16384]⟩
abbrev S256x16384 : Shape := ⟨2, ![256, 16384]⟩
abbrev S8192x256 : Shape := ⟨2, ![8192, 256]⟩
abbrev S256x256 : Shape := ⟨2, ![256, 256]⟩
abbrev S512x256 : Shape := ⟨2, ![512, 256]⟩
abbrev S64x16384 : Shape := ⟨2, ![64, 16384]⟩
abbrev S64x256 : Shape := ⟨2, ![64, 256]⟩
abbrev S1x256x256 : Shape := ⟨3, ![1, 256, 256]⟩
abbrev S1 : Shape := ⟨1, ![1]⟩
abbrev S1x1x1 : Shape := ⟨3, ![1, 1, 1]⟩
abbrev S64x1 : Shape := ⟨2, ![64, 1]⟩
abbrev S1x256 : Shape := ⟨2, ![1, 256]⟩
abbrev S64 : Shape := ⟨1, ![64]⟩

abbrev nBuf : Space → Nat
  | .hbm => 6
  | .vmem => 8
  | .smem => 0
  | _ => 0

abbrev bufTy : (tb : Table) → Fin (tcTables nBuf tb) → BufTy
  | .hbm, ⟨0, _⟩ => ⟨S512x16384, .f32⟩
  | .hbm, ⟨1, _⟩ => ⟨S256x16384, .f32⟩
  | .hbm, ⟨2, _⟩ => ⟨S8192x256, .f32⟩
  | .hbm, ⟨3, _⟩ => ⟨S256x256, .f32⟩
  | .hbm, ⟨4, _⟩ => ⟨S256x256, .f32⟩
  | .hbm, ⟨5, _⟩ => ⟨S512x256, .i32⟩
  | .local _ .vmem, ⟨0, _⟩ => ⟨S64x16384, .f32⟩
  | .local _ .vmem, ⟨1, _⟩ => ⟨S64x16384, .f32⟩
  | .local _ .vmem, ⟨2, _⟩ => ⟨S256x16384, .f32⟩
  | .local _ .vmem, ⟨3, _⟩ => ⟨S256x256, .f32⟩
  | .local _ .vmem, ⟨4, _⟩ => ⟨S64x256, .i32⟩
  | .local _ .vmem, ⟨5, _⟩ => ⟨S64x256, .i32⟩
  | .local _ .vmem, ⟨6, _⟩ => ⟨S64x256, .f32⟩
  | .local _ .vmem, ⟨7, _⟩ => ⟨S256x256, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x16384 : Shape := ⟨2, ![512, 16384]⟩
abbrev S256x16384 : Shape := ⟨2, ![256, 16384]⟩
abbrev S8192x256 : Shape := ⟨2, ![8192, 256]⟩
abbrev S16384x256 : Shape := ⟨2, ![16384, 256]⟩
abbrev S512x256 : Shape := ⟨2, ![512, 256]⟩
abbrev S1x8192x256 : Shape := ⟨3, ![1, 8192, 256]⟩
abbrev S512x8192x256 : Shape := ⟨3, ![512, 8192, 256]⟩
abbrev S512x256x256 : Shape := ⟨3, ![512, 256, 256]⟩
abbrev S512x1x256 : Shape := ⟨3, ![512, 1, 256]⟩
abbrev S_ : Shape := ⟨0, ![]⟩
abbrev S512 : Shape := ⟨1, ![512]⟩
abbrev S512x1x1 : Shape := ⟨3, ![512, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S256x16384, .f32⟩
  | .hbm, ⟨2, _⟩ => ⟨S8192x256, .f32⟩
  | .hbm, ⟨3, _⟩ => ⟨S16384x256, .f32⟩
  | .hbm, ⟨4, _⟩ => ⟨S512x256, .f32⟩
  | .hbm, ⟨5, _⟩ => ⟨S1x8192x256, .f32⟩
  | .hbm, ⟨6, _⟩ => ⟨S512x8192x256, .f32⟩
  | .hbm, ⟨7, _⟩ => ⟨S512x256x256, .f32⟩
  | .hbm, ⟨8, _⟩ => ⟨S512x1x256, .f32⟩
  | .hbm, ⟨9, _⟩ => ⟨S_, .f32⟩
  | .hbm, ⟨10, _⟩ => ⟨S512, .f32⟩
  | .hbm, ⟨11, _⟩ => ⟨S512x1x1, .f32⟩
  | .hbm, ⟨12, _⟩ => ⟨S_, .f32⟩
  | .hbm, ⟨13, _⟩ => ⟨S512x1x1, .f32⟩
  | .hbm, ⟨14, _⟩ => ⟨S512x1x1, .f32⟩
  | .hbm, ⟨15, _⟩ => ⟨S512x1x256, .f32⟩
  | .hbm, ⟨16, _⟩ => ⟨S512x1x256, .f32⟩
  | .hbm, ⟨17, _⟩ => ⟨S512x1x256, .f32⟩
  | .hbm, ⟨18, _⟩ => ⟨S_, .f32⟩
  | .hbm, ⟨19, _⟩ => ⟨S512, .f32⟩
  | .hbm, ⟨20, _⟩ => ⟨S512x1x1, .f32⟩
  | .hbm, ⟨21, _⟩ => ⟨S_, .f32⟩
  | .hbm, ⟨22, _⟩ => ⟨S512x1x1, .f32⟩
  | .hbm, ⟨23, _⟩ => ⟨S512x1x1, .f32⟩
  | .hbm, ⟨24, _⟩ => ⟨S512x1x256, .f32⟩
  | .hbm, ⟨25, _⟩ => ⟨S512x1x256, .f32⟩
  | .hbm, ⟨26, _⟩ => ⟨S_, .f32⟩
  | .hbm, ⟨27, _⟩ => ⟨S512x1x1, .f32⟩
  | .hbm, ⟨28, _⟩ => ⟨S512x1x1, .f32⟩
  | .hbm, ⟨29, _⟩ => ⟨S512x1x1, .f32⟩
  | .hbm, ⟨30, _⟩ => ⟨S512x1x256, .f32⟩
  | .hbm, ⟨31, _⟩ => ⟨S512x1x256, .f32⟩
  | .hbm, ⟨32, _⟩ => ⟨S_, .f32⟩
  | .hbm, ⟨33, _⟩ => ⟨S512, .f32⟩
  | .hbm, ⟨34, _⟩ => ⟨S512x1x1, .f32⟩
  | .hbm, ⟨35, _⟩ => ⟨S_, .f32⟩
  | .hbm, ⟨36, _⟩ => ⟨S512x1x1, .f32⟩
  | .hbm, ⟨37, _⟩ => ⟨S512x1x1, .f32⟩
  | .hbm, ⟨38, _⟩ => ⟨S512x256x256, .f32⟩
  | .hbm, ⟨39, _⟩ => ⟨S512x256x256, .f32⟩
  | .hbm, ⟨40, _⟩ => ⟨S512x256x256, .f32⟩
  | .hbm, ⟨41, _⟩ => ⟨S_, .f32⟩
  | .hbm, ⟨42, _⟩ => ⟨S512, .f32⟩
  | .hbm, ⟨43, _⟩ => ⟨S512x1x1, .f32⟩
  | .hbm, ⟨44, _⟩ => ⟨S_, .f32⟩
  | .hbm, ⟨45, _⟩ => ⟨S512x1x1, .f32⟩
  | .hbm, ⟨46, _⟩ => ⟨S512x1x1, .f32⟩
  | .hbm, ⟨47, _⟩ => ⟨S512x256x256, .f32⟩
  | .hbm, ⟨48, _⟩ => ⟨S512x256x256, .f32⟩
  | .hbm, ⟨49, _⟩ => ⟨S_, .f32⟩
  | .hbm, ⟨50, _⟩ => ⟨S512x1x1, .f32⟩
  | .hbm, ⟨51, _⟩ => ⟨S512x1x1, .f32⟩
  | .hbm, ⟨52, _⟩ => ⟨S512x1x1, .f32⟩
  | .hbm, ⟨53, _⟩ => ⟨S512x256x256, .f32⟩
  | .hbm, ⟨54, _⟩ => ⟨S512x256x256, .f32⟩
  | .hbm, ⟨55, _⟩ => ⟨S512x256x256, .f32⟩
  | .hbm, ⟨56, _⟩ => ⟨S512x256x256, .f32⟩
  | .hbm, ⟨57, _⟩ => ⟨S512x256x256, .i32⟩
  | .hbm, ⟨58, _⟩ => ⟨S_, .f32⟩
  | .hbm, ⟨59, _⟩ => ⟨S_, .i32⟩
  | .hbm, ⟨60, _⟩ => ⟨S512x256, .f32⟩
  | .hbm, ⟨61, _⟩ => ⟨S512x256, .i32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call0_v0 : Ref sig .tc := ⟨.hbm, 57, rfl⟩
abbrev main_call0_cst : Ref sig .tc := ⟨.hbm, 58, rfl⟩
abbrev main_call0_c : Ref sig .tc := ⟨.hbm, 59, rfl⟩
abbrev main_call0_v1_0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Body.lean ====
/- The kernel's body written as a loop: the 256 unrolled steps as two recursions of 128, between the codebook's
   normalisation (first point only) and the target block's. -/
module

public import proofs.«01_k».proof.Proof.Gen.KernelIdeal.Skeleton
public import Idealize.ShloMosaic.Lib.Pipeline.Regions

@[expose] public section

noncomputable section

namespace Cert.KernelIdeal.Hand

open Idealize.ShloMosaic Idealize.ShloMosaic.Pipeline Idealize.SL.Sem
open Cert.KernelIdeal Cert.KernelIdeal.Gen

variable {F : FTy → Type} [FloatOps F]

/-- Column `j` of the 64 × 256 scratch lies inside it. -/
theorem inbCol (j : Nat) (h : j < 256) : ∀ a, (![0, j] : Fin 2 → Nat) a + S64x1.size a ≤ S64x256.size a :=
  Fin.forall_fin_two.mpr ⟨Nat.le_refl 64, Nat.succ_le_of_lt h⟩

/-- Row `j` of the 256 × 256 scratch lies inside it. -/
theorem inbRow (j : Nat) (h : j < 256) : ∀ a, (![j, 0] : Fin 2 → Nat) a + S1x256.size a ≤ S256x256.size a :=
  Fin.forall_fin_two.mpr ⟨Nat.succ_le_of_lt h, Nat.le_refl 256⟩

/-- The distances of one step: the target column spread over the lanes less the codebook row spread over the sublanes. -/
def dist (a : FVec F S64x1 .f32) (b : FVec F S1x256 .f32) : FVec F S64x256 .f32 :=
  subf (broadcastTo S64x256 (shapeCast S64x1 a shapeCasts_S64x1_S64x1) broadcasts_S64x1_S64x256)
    (broadcastTo S64x256 (shapeCast S1x256 b shapeCasts_S1x256_S1x256) broadcasts_S1x256_S64x256)

/-- The running minimum after a step of distances `d`. -/
def newM (d m : FVec F S64x256 .f32) : FVec F S64x256 .f32 := minimumf m d

/-- The running index after step `j` of distances `d`: `j` where `d` is strictly below the minimum so far. -/
def newI (j : Nat) (d m : FVec F S64x256 .f32) (ix : IVec S64x256 32) : IVec S64x256 32 :=
  select (cmpf .olt d m) (broadcast S64x256 (BitVec.ofNat 32 j)) ix

/-- `n` steps from step `j`: each loads a column of `arg5` and a row of `arg6` and updates the running minimum and
    index; then the continuation `k`. -/
def steps (arg5 : Memref sig .tc .vmem S64x256 .f32) (arg6 : Memref sig .tc .vmem S256x256 .f32) (n : Nat) :
    (j : Nat) → (h : j + n ≤ 256) → FVec F S64x256 .f32 → IVec S64x256 32 →
      (FVec F S64x256 .f32 → IVec S64x256 32 → Prog (TpuEff nD τ sig (Elt F) Λ₀ .tc) PUnit) → Prog (TpuEff nD τ sig (Elt F) Λ₀ .tc) PUnit :=
  Nat.rec (motive := fun n => (j : Nat) → (h : j + n ≤ 256) → FVec F S64x256 .f32 → IVec S64x256 32 →
      (FVec F S64x256 .f32 → IVec S64x256 32 → Prog (TpuEff nD τ sig (Elt F) Λ₀ .tc) PUnit) → Prog (TpuEff nD τ sig (Elt F) Λ₀ .tc) PUnit)
    (fun j h m ix k => k m ix)
    (fun n ih j h m ix k => do
      let a : Vec F S64x1 .f32 ← Prog.lift (.load arg5 (Rect.unit (s := S64x256) ![0, j] S64x1.size (inbCol j (by omega))).toLoadRect (View.loadsAt_vmem h_S64x1))
      let b : Vec F S1x256 .f32 ← Prog.lift (.load arg6 (Rect.unit (s := S256x256) ![j, 0] S1x256.size (inbRow j (by omega))).toLoadRect (View.loadsAt_vmem h_S1x256))
      ih (j + 1) (by omega) (newM (dist a b) m) (newI j (dist a b) m ix) k)
    n

/-- The mean of a row over its 256 entries, as the kernel computes it. -/
def rowMean (t : FVec F S64x256 .f32) : FVec F S64x1 .f32 :=
  divf (shapeCast S64x1 (multiReduction .add [1] S64 t 0x00000000#32 reduces_S64x256_S64 (.inl rfl) rfl) shapeCasts_S64_S64x1)
    (broadcast S64x1 (Scalar.ofBits .f32 0x43800000#32))

/-- A block of target rows less their means. -/
def rowCent (t : FVec F S64x256 .f32) : FVec F S64x256 .f32 :=
  subf t (broadcastTo S64x256 (rowMean t) broadcasts_S64x1_S64x256)

/-- A block of target rows, layer-normalised row by row. -/
def rowNorm (t : FVec F S64x256 .f32) : FVec F S64x256 .f32 :=
  divf (rowCent t) (broadcastTo S64x256
    (sqrt (addf (rowMean (mulf (rowCent t) (rowCent t))) (broadcast S64x1 (Scalar.ofBits .f32 0x3727C5AC#32)))) broadcasts_S64x1_S64x256)

/-- The projected block: the input block times the transposed projection matrix. -/
def proj (x : FVec F S64x16384 .f32) (w : FVec F S256x16384 .f32) : FVec F S64x256 .f32 :=
  matmul dot_S64x16384_S256x16384_S64x256_1_1_0_0_n_n none x w (constant S64x256 .f32 0x00000000#32)

/-- What the body leaves in the target scratch from its blocks. -/
def tnOf (x : FVec F S64x16384 .f32) (w : FVec F S256x16384 .f32) : FVec F S64x256 .f32 :=
  shapeCast S64x256 (rowNorm (proj x w)) shapeCasts_S64x256_S64x256

/-- The mean of all 65536 entries, as the kernel computes it. -/
def allMean (c : FVec F S256x256 .f32) : F .f32 :=
  Scalar.divf (extractAt ![0, 0, 0] (shapeCast S1x1x1 (multiReduction .add [1, 2] S1 (shapeCast S1x256x256 c shapeCasts_S256x256_S1x256x256) 0x00000000#32 reduces_S1x256x256_S1 (.inl rfl) rfl) shapeCasts_S1_S1x1x1) inpos_S1x1x1_p0_0_0)
    (Scalar.ofBits .f32 0x47800000#32)

/-- The transposed codebook less its mean. -/
def allCent (c : FVec F S256x256 .f32) : FVec F S256x256 .f32 := subf c (broadcast S256x256 (allMean c))

/-- The transposed codebook, layer-normalised over all its entries. -/
def allNorm (c : FVec F S256x256 .f32) : FVec F S256x256 .f32 :=
  divf (allCent c) (broadcast S256x256 (Scalar.sqrt (Scalar.addf (allMean (mulf (allCent c) (allCent c))) (Scalar.ofBits .f32 0x3727C5AC#32))))

/-- What the body leaves in the codebook scratch at the first point. -/
def cnOf (c : FVec F S256x256 .f32) : FVec F S256x256 .f32 :=
  shapeCast S256x256 (allNorm (shapeCast S256x256 c shapeCasts_S256x256_S256x256)) shapeCasts_S256x256_S256x256

/-- The first point's extra work: the codebook, normalised, into its scratch. -/
def initP (arg3 : Memref sig .tc .vmem S256x256 .f32) (arg6 : Memref sig .tc .vmem S256x256 .f32) (k : Prog (TpuEff nD τ sig (Elt F) Λ₀ .tc) PUnit) :
    Prog (TpuEff nD τ sig (Elt F) Λ₀ .tc) PUnit := do
  let c : Vec F S256x256 .f32 ← Prog.lift (.load arg3 (Rect.unit (s := S256x256) ![0, 0] S256x256.size inb_S256x256_S256x256_0_0).toLoadRect (View.loadsAt_vmem h_S256x256))
  let _ : Vec F S256x256 .f32 ← Prog.lift (.load arg6 (Rect.unit (s := S256x256) ![0, 0] S256x256.size inb_S256x256_S256x256_0_0).toLoadRect (View.loadsAt_vmem h_S256x256))
  Prog.lift (.store arg6 (Rect.unit (s := S256x256) ![0, 0] S256x256.size inb_S256x256_S256x256_0_0) (cnOf c) Finset.univ (View.stores_vmem_bits_univ h_S256x256 rfl) (.inl rfl))
  k

/-- The running minimum before the first step: plus infinity everywhere. -/
def m0 : FVec F S64x256 .f32 := broadcast S64x256 (Scalar.ofBits .f32 0x7F800000#32)

/-- The running index before the first step: zero everywhere. -/
def i0 : IVec S64x256 32 := broadcast S64x256 0#32

/-- The two halves merged: the upper half's index where its minimum is strictly below the lower half's. -/
def merge (m1 : FVec F S64x256 .f32) (i1 : IVec S64x256 32) (m2 : FVec F S64x256 .f32) (i2 : IVec S64x256 32) : IVec S64x256 32 :=
  select (cmpf .olt m2 m1) i2 i1

/-- The body after its steps: the labels stored, then the next target block projected, normalised and stored. -/
def tailP (arg1 : Memref sig .tc .vmem S64x16384 .f32) (arg2 : Memref sig .tc .vmem S256x16384 .f32) (arg4 : Memref sig .tc .vmem S64x256 .i32)
    (arg5 : Memref sig .tc .vmem S64x256 .f32) (o : IVec S64x256 32) : Prog (TpuEff nD τ sig (Elt F) Λ₀ .tc) PUnit := do
  let _ : Vec F S64x256 .i32 ← Prog.lift (.load arg4 (Rect.unit (s := S64x256) ![0, 0] S64x256.size inb_S64x256_S64x256_0_0).toLoadRect (View.loadsAt_vmem h_S64x256))
  Prog.lift (.store arg4 (Rect.unit (s := S64x256) ![0, 0] S64x256.size inb_S64x256_S64x256_0_0) o Finset.univ (View.stores_vmem_bits_univ h_S64x256 rfl) (.inl rfl))
  let x : Vec F S64x16384 .f32 ← Prog.lift (.load arg1 (Rect.unit (s := S64x16384) ![0, 0] S64x16384.size inb_S64x16384_S64x16384_0_0).toLoadRect (View.loadsAt_vmem h_S64x16384))
  let w : Vec F S256x16384 .f32 ← Prog.lift (.load arg2 (Rect.unit (s := S256x16384) ![0, 0] S256x16384.size inb_S256x16384_S256x16384_0_0).toLoadRect (View.loadsAt_vmem h_S256x16384))
  let _ : Vec F S64x256 .f32 ← Prog.lift (.load arg5 (Rect.unit (s := S64x256) ![0, 0] S64x256.size inb_S64x256_S64x256_0_0).toLoadRect (View.loadsAt_vmem h_S64x256))
  Prog.lift (.store arg5 (Rect.unit (s := S64x256) ![0, 0] S64x256.size inb_S64x256_S64x256_0_0) (tnOf x w) Finset.univ (View.stores_vmem_bits_univ h_S64x256 rfl) (.inl rfl))
  pure ⟨⟩

/-- The body past the first point's extra work: two halves of 128 steps, merged and stored, then the next target block. -/
def mainP (arg1 : Memref sig .tc .vmem S64x16384 .f32) (arg2 : Memref sig .tc .vmem S256x16384 .f32) (arg4 : Memref sig .tc .vmem S64x256 .i32)
    (arg5 : Memref sig .tc .vmem S64x256 .f32) (arg6 : Memref sig .tc .vmem S256x256 .f32) : Prog (TpuEff nD τ sig (Elt F) Λ₀ .tc) PUnit :=
  steps arg5 arg6 128 0 (by omega) m0 i0 fun m1 i1 => steps arg5 arg6 128 128 (by omega) m0 i0 fun m2 i2 =>
    tailP arg1 arg2 arg4 arg5 (merge m1 i1 m2 i2)

/-- The branch's word at a grid point. -/
abbrev isFirst (i : grid0.Coords) : Prop :=
  (Scalar.cmpi .ne (Scalar.extui (Scalar.cmpi .eq (BitVec.ofNat 32 (i 0).val) 0#32) : BitVec 32) 0#32 : BitVec 1) = 1#1

set_option maxHeartbeats 4000000 in
/-- At the first point the printed body is the codebook's normalisation and then the loop. -/
theorem body_first (i : grid0.Coords) (arg1 : Memref sig .tc .vmem S64x16384 .f32) (harg1 : arg1.IsWhole) (arg2 : Memref sig .tc .vmem S256x16384 .f32) (harg2 : arg2.IsWhole) (arg3 : Memref sig .tc .vmem S256x256 .f32) (harg3 : arg3.IsWhole) (arg4 : Memref sig .tc .vmem S64x256 .i32) (harg4 : arg4.IsWhole) (arg5 : Memref sig .tc .vmem S64x256 .f32) (harg5 : arg5.IsWhole) (arg6 : Memref sig .tc .vmem S256x256 .f32) (harg6 : arg6.IsWhole)
    (hc : isFirst i) :
    cc0__rpq_kernel (F := F) i arg1 harg1 arg2 harg2 arg3 harg3 arg4 harg4 arg5 harg5 arg6 harg6 = initP arg3 arg6 (mainP arg1 arg2 arg4 arg5 arg6) := by
  unfold cc0__rpq_kernel k0_part70 k0_part1
  simp only [dif_pos hc]
  chain_rfl

set_option maxHeartbeats 4000000 in
/-- At every later point the printed body is the loop alone. -/
theorem body_later (i : grid0.Coords) (arg1 : Memref sig .tc .vmem S64x16384 .f32) (harg1 : arg1.IsWhole) (arg2 : Memref sig .tc .vmem S256x16384 .f32) (harg2 : arg2.IsWhole) (arg3 : Memref sig .tc .vmem S256x256 .f32) (harg3 : arg3.IsWhole) (arg4 : Memref sig .tc .vmem S64x256 .i32) (harg4 : arg4.IsWhole) (arg5 : Memref sig .tc .vmem S64x256 .f32) (harg5 : arg5.IsWhole) (arg6 : Memref sig .tc .vmem S256x256 .f32) (harg6 : arg6.IsWhole)
    (hc : ¬ isFirst i) :
    cc0__rpq_kernel (F := F) i arg1 harg1 arg2 harg2 arg3 harg3 arg4 harg4 arg5 harg5 arg6 harg6 = mainP arg1 arg2 arg4 arg5 arg6 := by
  unfold cc0__rpq_kernel k0_part70 k0_part1
  simp only [dif_neg hc]
  chain_rfl

end Cert.KernelIdeal.Hand

end
-- ==== Proof.Steps.lean ====
/- What the loop of steps computes, and the body's triples over it: at the first point, and at every later one. -/
module

public import proofs.«01_k».proof.Proof.Body
public import proofs.«01_k».proof.Proof.Gen.KernelIdeal.Frame
public import Idealize.ShloMosaic.Lib.VecWindow

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- Column `j` of the target block. -/
def col (T : Vec F S64x256 .f32) (j : Nat) (h : j < 256) : FVec F S64x1 .f32 :=
  fun x => T ((Rect.unit (s := S64x256) ![0, j] S64x1.size (inbCol j h)).toLoadRect.idx x)

/-- Row `j` of the transposed codebook. -/
def row (C : Vec F S256x256 .f32) (j : Nat) (h : j < 256) : FVec F S1x256 .f32 :=
  fun x => C ((Rect.unit (s := S256x256) ![j, 0] S1x256.size (inbRow j h)).toLoadRect.idx x)

/-- The running minimum and index after `n` steps from step `j`, over a target block `T` and a codebook `C`. -/
def run (T : Vec F S64x256 .f32) (C : Vec F S256x256 .f32) : (n j : Nat) → (h : j + n ≤ 256) → FVec F S64x256 .f32 → IVec S64x256 32 →
    FVec F S64x256 .f32 × IVec S64x256 32
  | 0, _, _, m, ix => (m, ix)
  | n + 1, j, h, m, ix =>
    run T C n (j + 1) (by omega) (newM (dist (col T j (by omega)) (row C j (by omega))) m) (newI j (dist (col T j (by omega)) (row C j (by omega))) m ix)

/-- The labels the body stores: the lower half's run merged with the upper half's. -/
def outOf (T : Vec F S64x256 .f32) (C : Vec F S256x256 .f32) : IVec S64x256 32 :=
  merge (run T C 128 0 (by omega) m0 i0).1 (run T C 128 0 (by omega) m0 i0).2
    (run T C 128 128 (by omega) m0 i0).1 (run T C 128 128 (by omega) m0 i0).2

/-- One step of the loop, then the rest. -/
theorem steps_succ (arg5 : Memref sig .tc .vmem S64x256 .f32) (arg6 : Memref sig .tc .vmem S256x256 .f32) (n j : Nat) (h : j + (n + 1) ≤ 256)
    (m : FVec F S64x256 .f32) (ix : IVec S64x256 32) (k : FVec F S64x256 .f32 → IVec S64x256 32 → Prog (TpuEff nD τ sig (Elt F) Λ₀ .tc) PUnit) :
    steps arg5 arg6 (n + 1) j h m ix k = (do
      let a : Vec F S64x1 .f32 ← Prog.lift (.load arg5 (Rect.unit (s := S64x256) ![0, j] S64x1.size (inbCol j (by omega))).toLoadRect (View.loadsAt_vmem h_S64x1))
      let b : Vec F S1x256 .f32 ← Prog.lift (.load arg6 (Rect.unit (s := S256x256) ![j, 0] S1x256.size (inbRow j (by omega))).toLoadRect (View.loadsAt_vmem h_S1x256))
      steps arg5 arg6 n (j + 1) (by omega) (newM (dist a b) m) (newI j (dist a b) m ix) k) := rfl

/-- Reading a column of the target scratch gives that column of its contents. -/
theorem readCol (arg5 : Memref sig .tc .vmem S64x256 .f32) (harg5 : arg5.IsWhole) (T : Vec F S64x256 .f32) (j : Nat) (h : j < 256) :
    View.readAt (Elt F) arg5.view (Rect.unit (s := S64x256) ![0, j] S64x1.size (inbCol j h)).toLoadRect (harg5.unread T) = col T j h := by
  funext x; rw [View.readAt_apply, harg5.read_unread]; rfl

/-- Reading a row of the codebook scratch gives that row of its contents. -/
theorem readRow (arg6 : Memref sig .tc .vmem S256x256 .f32) (harg6 : arg6.IsWhole) (C : Vec F S256x256 .f32) (j : Nat) (h : j < 256) :
    View.readAt (Elt F) arg6.view (Rect.unit (s := S256x256) ![j, 0] S1x256.size (inbRow j h)).toLoadRect (harg6.unread C) = row C j h := by
  funext x; rw [View.readAt_apply, harg6.read_unread]; rfl

/-- The loop's triple: from the two scratch buffers at `T` and `C`, `n` steps reach the continuation at `run`'s values, the
    buffers as they were. -/
theorem wp_steps (c : Dev nD) (arg5 : Memref sig .tc .vmem S64x256 .f32) (harg5 : arg5.IsWhole) (arg6 : Memref sig .tc .vmem S256x256 .f32) (harg6 : arg6.IsWhole)
    (T : Vec F S64x256 .f32) (C : Vec F S256x256 .f32) (E : Set ℕ) (K : PUnit → sProp 𝕄)
    (k : FVec F S64x256 .f32 → IVec S64x256 32 → Prog (TpuEff nD τ sig (Elt F) Λ₀ .tc) PUnit) :
    ∀ (n j : Nat) (h : j + n ≤ 256) (m : FVec F S64x256 .f32) (ix : IVec S64x256 32),
    iprop((View.loc (c : Thread nD τ) arg5.view ↦[arg5.view.set]{fullShare} harg5.unread T) ∗ (View.loc (c : Thread nD τ) arg6.view ↦[arg6.view.set]{fullShare} harg6.unread C)
        ∗ (iprop((View.loc (c : Thread nD τ) arg5.view ↦[arg5.view.set]{fullShare} harg5.unread T) ∗ (View.loc (c : Thread nD τ) arg6.view ↦[arg6.view.set]{fullShare} harg6.unread C))
          -∗ wp frame (wpE (defs₀ (F := F)) Variants.none c none) E (k (run T C n j h m ix).1 (run T C n j h m ix).2) K))
      ⊢ wp frame (wpE (defs₀ (F := F)) Variants.none c none) E (steps arg5 arg6 n j h m ix k) K
  | 0, j, h, m, ix => by
    iintro ⟨H5, H6, Hk⟩
    iapply Hk
    isplitl [H5]
    · iexact H5
    iexact H6
  | n + 1, j, h, m, ix => by
    rw [steps_succ]
    iintro ⟨H5, H6, Hk⟩
    sl_exec
    have ih := wp_steps c arg5 harg5 arg6 harg6 T C E K k n (j + 1) (by omega)
      (newM (dist (col T j (by omega)) (row C j (by omega))) m) (newI j (dist (col T j (by omega)) (row C j (by omega))) m ix)
    rw [readCol arg5 harg5 T j (by omega), readRow arg6 harg6 C j (by omega)]
    iapply ih
    isplitl [H5]
    · iexact H5
    isplitl [H6]
    · iexact H6
    iexact Hk

/-- The body past the first point's extra work: from its buffers it leaves the labels of the scratch it found in `arg4`
    and the next target block's rows, normalised, in `arg5`. -/
theorem wp_main (c : Dev nD) (arg1 : Memref sig .tc .vmem S64x16384 .f32) (harg1 : arg1.IsWhole) (arg2 : Memref sig .tc .vmem S256x16384 .f32) (harg2 : arg2.IsWhole) (arg4 : Memref sig .tc .vmem S64x256 .i32) (harg4 : arg4.IsWhole) (arg5 : Memref sig .tc .vmem S64x256 .f32) (harg5 : arg5.IsWhole) (arg6 : Memref sig .tc .vmem S256x256 .f32) (harg6 : arg6.IsWhole)
    (x : Vec F S64x16384 .f32) (w : Vec F S256x16384 .f32) (T : Vec F S64x256 .f32) (C : Vec F S256x256 .f32) (E : Set ℕ) (K : PUnit → sProp 𝕄) :
    iprop(owns (c : Thread nD τ) arg1 fullShare x ∗ owns (c : Thread nD τ) arg2 fullShare w ∗ (∃ d, owns (c : Thread nD τ) arg4 fullShare d) ∗ owns (c : Thread nD τ) arg5 fullShare T ∗ owns (c : Thread nD τ) arg6 fullShare C
        ∗ (iprop(owns (c : Thread nD τ) arg1 fullShare x ∗ owns (c : Thread nD τ) arg2 fullShare w ∗ owns (c : Thread nD τ) arg4 fullShare (outOf T C) ∗ owns (c : Thread nD τ) arg5 fullShare (tnOf x w) ∗ owns (c : Thread nD τ) arg6 fullShare C) -∗ K ⟨⟩))
      ⊢ wp frame (wpE (defs₀ (F := F)) Variants.none c none) E (mainP arg1 arg2 arg4 arg5 arg6) K := by
  unfold mainP owns
  iintro ⟨⟨%f1, %hf1, H1⟩, ⟨%f2, %hf2, H2⟩, ⟨%d4, %f4, -, H4⟩, ⟨%f5, %hf5, H5⟩, ⟨%f6, %hf6, H6⟩, Hk⟩
  obtain rfl := harg1.eq_unread hf1; obtain rfl := harg2.eq_unread hf2; obtain rfl := harg5.eq_unread hf5; obtain rfl := harg6.eq_unread hf6
  iapply (wp_steps c arg5 harg5 arg6 harg6 T C E K _ 128 0 _ m0 i0)
  isplitl [H5]
  · iexact H5
  isplitl [H6]
  · iexact H6
  iintro ⟨H5, H6⟩
  iapply (wp_steps c arg5 harg5 arg6 harg6 T C E K _ 128 128 _ m0 i0)
  isplitl [H5]
  · iexact H5
  isplitl [H6]
  · iexact H6
  iintro ⟨H5, H6⟩
  unfold tailP
  sl_exec
  sl_step
  iapply Hk
  rw [View.readAt_full, View.readAt_full, harg1.read_unread, harg2.read_unread]
  isplitl [H1]
  · iexists _; isplitr; · ipureintro; exact harg1.read_unread _
    iexact H1
  isplitl [H2]
  · iexists _; isplitr; · ipureintro; exact harg2.read_unread _
    iexact H2
  isplitl [H4]
  · iexists _; isplitr; swap; · iexact H4
    ipureintro; exact View.read_writes_full _ _ _ _ _
  isplitl [H5]
  · iexists _; isplitr; swap; · iexact H5
    ipureintro; exact View.read_writes_full _ _ _ _ _
  iexists _; isplitr; swap; · iexact H6
  ipureintro; exact harg6.read_unread _

/-- The first point's extra work: from the codebook's block it leaves that block, normalised, in the codebook scratch. -/
theorem wp_init (c : Dev nD) (arg3 : Memref sig .tc .vmem S256x256 .f32) (harg3 : arg3.IsWhole) (arg6 : Memref sig .tc .vmem S256x256 .f32) (harg6 : arg6.IsWhole)
    (ct : Vec F S256x256 .f32) (E : Set ℕ) (K : PUnit → sProp 𝕄) (k : Prog (TpuEff nD τ sig (Elt F) Λ₀ .tc) PUnit) :
    iprop(owns (c : Thread nD τ) arg3 fullShare ct ∗ (∃ d, owns (c : Thread nD τ) arg6 fullShare d)
        ∗ (iprop(owns (c : Thread nD τ) arg3 fullShare ct ∗ owns (c : Thread nD τ) arg6 fullShare (cnOf ct))
          -∗ wp frame (wpE (defs₀ (F := F)) Variants.none c none) E k K))
      ⊢ wp frame (wpE (defs₀ (F := F)) Variants.none c none) E (initP arg3 arg6 k) K := by
  unfold initP owns
  iintro ⟨⟨%f3, %hf3, H3⟩, ⟨%d6, %f6, -, H6⟩, Hk⟩
  obtain rfl := harg3.eq_unread hf3
  sl_exec
  rw [View.readAt_full, harg3.read_unread]
  iapply Hk
  isplitl [H3]
  · iexists _; isplitr; · ipureintro; exact harg3.read_unread _
    iexact H3
  iexists _; isplitr; swap; · iexact H6
  ipureintro; exact View.read_writes_full _ _ _ _ _

end Cert.KernelIdeal.Hand

end
-- ==== Proof.Launch.lean ====
/- The launch: what each grid point leaves in the buffers, the body's obligation at every point, and the run of @main. -/
module

public import proofs.«01_k».proof.Proof.Steps
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalised targets that point `t` leaves in the target scratch: of its block of rows and of the projection. -/
def tgtAt (c : Dev nD) (t : Fin cfg0.N) : FVec F S64x256 .f32 := tnOf (iblk m c 0 t) (iblk m c 1 t)

/-- The normalised codebook that the first point leaves in the codebook scratch. -/
def cbk (c : Dev nD) : FVec F S256x256 .f32 := cnOf (iblk m c 2 t0_0)

/-- The point before `t`. -/
abbrev prevPt (t : Fin cfg0.N) : Fin cfg0.N := ⟨t.val - 1, Nat.lt_of_le_of_lt (Nat.sub_le _ _) t.isLt⟩

/-- The two scratch buffers, whole. -/
abbrev scT : Memref sig .tc .vmem S64x256 .f32 := Memref.whole cc0_scratch0
abbrev scC : Memref sig .tc .vmem S256x256 .f32 := Memref.whole cc0_scratch1

/-- What the two scratch buffers hold after point `t`. -/
def held (c : Dev nD) (t : Fin cfg0.N) : sProp 𝕄 :=
  iprop((owns (c : Thread nD τ) scT fullShare (tgtAt m c t) ∗ owns (c : Thread nD τ) scC fullShare (cbk m c)) ∗ (∃ r, prngReg c r))

/-- The invariant before point `k`: at the first point the scratch buffers hold anything, later what the point before left. -/
def inv (c : Dev nD) (k : Fin (cfg0.N + 1)) : sProp 𝕄 :=
  if h : k.val = 0 then Pipeline.ΦA spec0 c else held m c ⟨k.val - 1, by have := k.isLt; omega⟩

/-- The invariant at the first point, and at a later one. -/
theorem inv_eq (c : Dev nD) (k : Fin (cfg0.N + 1)) (h : k.val = 0) : inv m c k = Pipeline.ΦA spec0 c := by
  unfold inv; exact dif_pos h
theorem inv_ne (c : Dev nD) (k : Fin (cfg0.N + 1)) (h : k.val ≠ 0) :
    inv m c k = held m c ⟨k.val - 1, by have := k.isLt; omega⟩ := by
  unfold inv; exact dif_neg h

/-- The proof data: each input's buffer is left as found; the output's holds, from the second point on, the labels of the
    targets the point before left; at the first point anything. -/
def rdats (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun _ X => t.val ≠ 0 → X = outOf (tgtAt m c (prevPt t)) (cbk m c)
  Φ k := inv m c k
  q _ := fullShare
  owed _ := 0

theorem rA_eq (c : Dev nD) (w : Fin cfg0.W) : (rdats m c).A w = V m c (Pipeline.arrRef spec0 w) := by
  dsimp only [rdats]

/-- What the body leaves in an input's buffer is what it found there. -/
theorem rafter_0 (c : Dev nD) (t : Fin cfg0.N) (Y X) : (rdats m c).after 0 t Y X ↔ X = Y := Iff.rfl
theorem rafter_1 (c : Dev nD) (t : Fin cfg0.N) (Y X) : (rdats m c).after 1 t Y X ↔ X = Y := Iff.rfl
theorem rafter_2 (c : Dev nD) (t : Fin cfg0.N) (Y X) : (rdats m c).after 2 t Y X ↔ X = Y := Iff.rfl
theorem rafter_3 (c : Dev nD) (t : Fin cfg0.N) (Y X) :
    (rdats m c).after 3 t Y X ↔ (t.val ≠ 0 → X = outOf (tgtAt m c (prevPt t)) (cbk m c)) := Iff.rfl

/-- Each input's buffer, whenever the body finds it, holds that input's block at the point. -/
theorem finds_0 (c : Dev nD) (t : Fin cfg0.N) (Y) (h : (rdats m c).Finds 0 t Y) : Y = iblk m c 0 t := by
  obtain ⟨d, hd⟩ := (rdats m c).finds_in_eq_fetched 0 rfl (fun _ _ _ => rfl) (fun t Y X h => (rafter_0 m c t Y X).mp h) t Y h
  rw [hd]; unfold RDat.fetched RDat.blockOf iblk; rw [rA_eq]; rfl
theorem finds_1 (c : Dev nD) (t : Fin cfg0.N) (Y) (h : (rdats m c).Finds 1 t Y) : Y = iblk m c 1 t := by
  obtain ⟨d, hd⟩ := (rdats m c).finds_in_eq_fetched 1 rfl (fun _ _ _ => rfl) (fun t Y X h => (rafter_1 m c t Y X).mp h) t Y h
  rw [hd]; unfold RDat.fetched RDat.blockOf iblk; rw [rA_eq]; rfl
theorem finds_2 (c : Dev nD) (t : Fin cfg0.N) (Y) (h : (rdats m c).Finds 2 t Y) : Y = iblk m c 2 t := by
  obtain ⟨d, hd⟩ := (rdats m c).finds_in_eq_fetched 2 rfl (fun _ _ _ => rfl) (fun t Y X h => (rafter_2 m c t Y X).mp h) t Y h
  rw [hd]; unfold RDat.fetched RDat.blockOf iblk; rw [rA_eq]; rfl

/-- The invariant at the first point, its scratch buffers spelt out. -/
theorem entry_eq (c : Dev nD) :
    (Pipeline.ΦA spec0 c : sProp 𝕄)
      = iprop(iprop((∃ d, owns (c : Thread nD τ) scT fullShare d) ∗ (∃ d, owns (c : Thread nD τ) scC fullShare d)) ∗ (∃ r, prngReg c r)) := by
  unfold Pipeline.ΦA; rw [scopedRest0_eq]; simp only [scT, scC, owns_whole]; try rfl

theorem inv_zero (c : Dev nD) (t : Fin cfg0.N) (h : t.val = 0) : (rdats m c).Φ t.castSucc = Pipeline.ΦA spec0 c := by
  exact inv_eq m c t.castSucc h
theorem inv_pos (c : Dev nD) (t : Fin cfg0.N) (h : t.val ≠ 0) : (rdats m c).Φ t.castSucc = held m c (prevPt t) := by
  exact inv_ne m c t.castSucc h
theorem inv_succ (c : Dev nD) (t : Fin cfg0.N) : (rdats m c).Φ t.succ = held m c t := by
  exact inv_ne m c t.succ (Nat.succ_ne_zero t.val)

/-- The body's branch is taken at the first point only. -/
theorem isFirst_iff : ∀ t : Fin cfg0.N, isFirst (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [isFirst, e0]
    word_cmp
   : ∀ t : Fin grid0.N, isFirst (grid0.coords t) ↔ t.val % 9 = 0)

/-- Each window's current buffer at point `t`, and that it is a whole buffer. -/
abbrev bf0 (t : Fin cfg0.N) : Memref sig .tc .vmem S64x16384 .f32 := win0_0.stage (cfg0.slots t 0)
abbrev hb0 (t : Fin cfg0.N) : (bf0 t).IsWhole := hstage0_0 ((cfg0.slots t 0).cast nbuf0_0)
abbrev bf1 (t : Fin cfg0.N) : Memref sig .tc .vmem S256x16384 .f32 := win0_1.stage (cfg0.slots t 1)
abbrev hb1 (t : Fin cfg0.N) : (bf1 t).IsWhole := hstage0_1 ((cfg0.slots t 1).cast nbuf0_1)
abbrev bf2 (t : Fin cfg0.N) : Memref sig .tc .vmem S256x256 .f32 := win0_2.stage (cfg0.slots t 2)
abbrev hb2 (t : Fin cfg0.N) : (bf2 t).IsWhole := hstage0_2 ((cfg0.slots t 2).cast nbuf0_2)
abbrev bf3 (t : Fin cfg0.N) : Memref sig .tc .vmem S64x256 .i32 := win0_3.stage (cfg0.slots t 3)
abbrev hb3 (t : Fin cfg0.N) : (bf3 t).IsWhole := hstage0_3 ((cfg0.slots t 3).cast nbuf0_3)

/-- What the body is called with at point `t`, the windows one by one, -/
def pre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (bf0 t) fullShare (Y 0)
    ∗ owns (c : Thread nD τ) (bf1 t) fullShare (Y 1)
    ∗ owns (c : Thread nD τ) (bf2 t) fullShare (Y 2)
    ∗ owns (c : Thread nD τ) (bf3 t) fullShare (Y 3))

/-- and what it returns. -/
def post (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (bf0 t) fullShare X)
    ∗ (∃ X, ⌜(rdats m c).after 1 t (Y 1) X⌝ ∗ owns (c : Thread nD τ) (bf1 t) fullShare X)
    ∗ (∃ X, ⌜(rdats m c).after 2 t (Y 2) X⌝ ∗ owns (c : Thread nD τ) (bf2 t) fullShare X)
    ∗ (∃ X, ⌜(rdats m c).after 3 t (Y 3) X⌝ ∗ owns (c : Thread nD τ) (bf3 t) fullShare X))

set_option maxHeartbeats 800000 in
/-- The body at any point: it leaves the next targets and the codebook in the scratch, and the labels in the output's buffer. -/
theorem body_at (c : Dev nD) (t : Fin cfg0.N) (Y : (w : Fin cfg0.W) → (cfg0.win w).block.Idx → Elt F (cfg0.win w).elt)
    (hY : ∀ w, (rdats m c).Finds w t (Y w)) :
    pre m c t Y ⊢ wp frame (wpE (defs₀ (F := F)) Variants.none c none) Set.univ (bodyAt0 t) (fun _ => post m c t Y) := by
  unfold pre post bodyAt0
  rw [inv_succ, show (rdats m c).owesAt () t.succ = (rdats m c).owesAt () t.castSucc from rfl]
  rw [finds_0 m c t _ (hY 0), finds_1 m c t _ (hY 1), finds_2 m c t _ (hY 2)]
  simp only [rafter_0, rafter_1, rafter_2, rafter_3]
  have hN : t.val < 9 := lt_of_lt_of_eq t.isLt (show cfg0.N = 9 from N_0)
  unfold held
  by_cases h0 : t.val = 0
  · rw [inv_zero m c t h0, entry_eq, body_first _ _ _ _ _ _ _ _ _ _ _ _ _ ((isFirst_iff t).mpr (by omega))]
    have et : t = t0_0 := Fin.ext h0
    iintro ⟨⟨⟨⟨%dT, HT⟩, HC⟩, Hg⟩, Ho, H0, H1, H2, H3⟩
    iapply (wp_init c (bf2 t) (hb2 t) scC (Memref.isWhole_whole _) (iblk m c 2 t) Set.univ _ _)
    isplitl [H2]; · iexact H2
    isplitl [HC]; · iexact HC
    iintro ⟨H2, HC⟩
    iapply (wp_main c (bf0 t) (hb0 t) (bf1 t) (hb1 t) (bf3 t) (hb3 t) scT (Memref.isWhole_whole _) scC (Memref.isWhole_whole _)
      (iblk m c 0 t) (iblk m c 1 t) dT (cnOf (iblk m c 2 t)) Set.univ _)
    isplitl [H0]; · iexact H0
    isplitl [H1]; · iexact H1
    isplitl [H3]; · iexists _; iexact H3
    isplitl [HT]; · iexact HT
    isplitl [HC]; · iexact HC
    iintro ⟨H0, H1, H3, HT, HC⟩
    isplitl [HT HC Hg]
    · isplitl [HT HC]
      · isplitl [HT]
        · iexact HT
        subst et
        iexact HC
      iexact Hg
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    iexists _; isplitr; swap; · iexact H3
    ipureintro; exact fun h => absurd h0 h
  · rw [inv_pos m c t h0, body_later _ _ _ _ _ _ _ _ _ _ _ _ _ (fun h => h0 (by have := (isFirst_iff t).mp h; omega))]
    unfold held
    iintro ⟨⟨⟨HT, HC⟩, Hg⟩, Ho, H0, H1, H2, H3⟩
    iapply (wp_main c (bf0 t) (hb0 t) (bf1 t) (hb1 t) (bf3 t) (hb3 t) scT (Memref.isWhole_whole _) scC (Memref.isWhole_whole _)
      (iblk m c 0 t) (iblk m c 1 t) (tgtAt m c (prevPt t)) (cbk m c) Set.univ _)
    isplitl [H0]; · iexact H0
    isplitl [H1]; · iexact H1
    isplitl [H3]; · iexists _; iexact H3
    isplitl [HT]; · iexact HT
    isplitl [HC]; · iexact HC
    iintro ⟨H0, H1, H3, HT, HC⟩
    isplitl [HT HC Hg]
    · isplitl [HT HC]
      · isplitl [HT]
        · iexact HT
        iexact HC
      iexact Hg
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    iexists _; isplitr; swap; · iexact H3
    ipureintro; exact fun _ => rfl

/-- The body table's row at point `t` is the body called on the current buffers. -/
theorem row_eq (t : Fin cfg0.N) :
    defs₀ (F := F) .tc cfg0.body (cfg0.bodyArgs t (cfg0.slots t)) = bodyAt0 t := by
  unfold defs₀; rw [Defs.onTc_tc]

/-- The body obligation of the pipeline. -/
theorem obligation (c : Dev nD) : (rdats (F := F) m c).BodyObligation (defs₀ (F := F)) Variants.none () Set.univ := fun t Y hY => by
  rw [bigSep_W0, bigSep_W0, row_eq]
  exact triple_restated (body_at m c t Y hY) rfl .rfl fun _ => .rfl

set_option backward.isDefEq.respectTransparency.types false in
/-- The run of @main: it terminates, the arrays end as the proof data say, every other buffer as the region found it, and
    every semaphore counter at zero. -/
theorem run_all : θ_run defs (onTc (τ := τ) (main (F := F))) (s₀ m ρ)
    (fun r => RDat.FramePost (cfgs 0) (fun c => rdats m c) (V m) r ∧ r.2.sem = fun _ => 0) :=
  RDat.θ_run_frame_track (Q' := _) cfgs (0 : Fin 1) launch0 defs₀ Variants.none (fun c => rdats m c) m ρ main
    (hbody := fun c => obligation m c) (hshare := fun c w => by unfold RDat.share; split <;> rfl)
    (howed := fun _ _ => rfl) (V := V m) (hmain := hmain m Variants.none) (hA := rA_eq m)
    (hin := fun c => Entails.of_eq (inv_eq m c 0 rfl).symm)
    (hout := fun c => by
      show inv m c (Fin.last cfg0.N) ⊢ _
      unfold inv; rw [dif_neg (by show cfg0.N ≠ 0; rw [show cfg0.N = 9 from N_0]; decide), entry_eq]
      unfold held
      iintro ⟨⟨HT, HC⟩, Hg⟩
      isplitl [HT HC]
      · isplitl [HT]
        · iexists _; iexact HT
        iexists _; iexact HC
      iexact Hg)
    (hQ' := fun _ h => h)

end Cert.KernelIdeal.Hand

end
-- ==== Proof.Final.lean ====
/- What the result array holds after the run: each block of 64 rows, the labels of that block's targets. -/
module

public import proofs.«01_k».proof.Proof.Launch

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (RDat Cfg Window)
open Cert.KernelIdeal Cert.KernelIdeal.Gen

variable {F : FTy → Type} [FloatOps F]

variable (m : (ℓ : Loc nD τ sig) → Buf (Elt F) ℓ) (ρ : Dev nD → PrngReg)

/-- The point that computes the targets of row `r`. -/
def rowPt (r : Nat) (h : r < 512) : Fin cfg0.N := ⟨r / 64, by rw [show cfg0.N = 9 from N_0]; omega⟩

/-- The result array: at row `r`, row `r % 64` of the labels of the targets of block `r / 64`. -/
def result (c : Dev nD) : IVec S512x256 32 := fun i =>
  outOf (tgtAt m c (rowPt (i 0).val (i 0).isLt)) (cbk m c)
    ((fun | 0 => ⟨(i 0).val % 64, Nat.mod_lt _ (by decide)⟩ | 1 => i 1) : S64x256.Idx)

theorem index_3 : ∀ t : Fin cfg0.N, win0_3.index t = ![t.val - 1, 0] := (by decide +kernel : ∀ t : Fin grid0.N, _)
theorem flush_3 : ∀ t : Fin cfg0.N, win0_3.flush t = true → t.val ≠ 0 := (by decide +kernel : ∀ t : Fin grid0.N, _)

/-- The result at a row of the block that point `t` writes back. -/
theorem outOf_at (c : Dev nD) (i : S512x256.Idx) (t : Fin cfg0.N) (y : S64x256.Idx) (e0 : (i 0).val = (t.val - 1) * 64 + (y 0).val)
    (e1 : (i 1).val = (y 1).val) : outOf (tgtAt m c (prevPt t)) (cbk m c) y = result m c i := by
  have hy : (y 0).val < 64 := (y 0).isLt
  have ht : prevPt t = rowPt (i 0).val (i 0).isLt := Fin.ext (show t.val - 1 = (i 0).val / 64 by omega)
  unfold result
  rw [← ht]
  refine congrArg _ (funext fun a => Fin.ext ?_)
  match a with
  | ⟨0, _⟩ => show (y 0).val = (i 0).val % 64; omega
  | ⟨1, _⟩ => exact e1.symm

/-- At an exact choice of what the body leaves, the result array is `result`. -/
theorem array_exact (c : Dev nD) (after : (w' : Fin cfg0.W) → Fin cfg0.N → (cfg0.win w').block.Idx → Elt F (cfg0.win w').elt)
    (hL : ∀ u, (cfg0.win 3).flush u = true → (rdats m c).Leaves 3 u (after 3 u)) :
    ((rdats m c).withAfter after).arrAt 3 cfg0.N = result m c := by
  refine Pipeline.Dat.arrAt_eq_of_covers _ 3 _ (by decide +kernel) fun t hf y => ?_
  have h0 := flush_3 t hf
  have hN : t.val < 9 := lt_of_lt_of_eq t.isLt (show cfg0.N = 9 from N_0)
  obtain ⟨Y, -, hR⟩ := hL t hf
  have e := (rafter_3 m c t Y _).mp hR h0
  blk_simp
  rw [RDat.withAfter_after, e]
  have e0 : (((win0_3.blk t).view.emb y 0 : Fin _) : Nat) = (t.val - 1) * 64 + (y 0).val := by blk_simp [index_3]
  have e1 : (((win0_3.blk t).view.emb y 1 : Fin _) : Nat) = (y 1).val := by blk_simp [index_3]
  exact outOf_at m c _ t y e0 e1

end Cert.KernelIdeal.Hand

end
-- ==== Proof.Run.lean ====
/- The kernel's run, read: the arguments unchanged, the result array the labels, every semaphore counter at zero. -/
module

public import proofs.«01_k».proof.Proof.Final
public import Idealize.ShloMosaic.Lib.StableHlo.RunHlo

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (RDat Cfg Window)
open Cert.KernelIdeal Cert.KernelIdeal.Gen

variable {F : FTy → Type} [FloatOps F]

variable (m : (ℓ : Loc nD τ sig) → Buf (Elt F) ℓ) (ρ : Dev nD → PrngReg)

/-- The kernel runs to the labels in its result array, its arguments unchanged and every semaphore counter at zero. -/
theorem run_value : θ_run (defs (F := F)) (onTc (τ := τ) (main (F := F))) ⟨m, fun _ => 0, ρ⟩ (fun r =>
    (∀ c : Dev nD, r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine θ_run_mono (run_all m ρ) fun r h => ⟨fun c => ⟨?_, ?_, ?_, ?_⟩, h.2⟩
  · obtain ⟨after, hL, hA⟩ := h.1.exists_exact c
    exact (hA 3).trans (array_exact m c after (hL 3))
  · exact (RDat.FramePost.arr_in h.1 c 0 rfl).trans ((rA_eq m c 0).trans (V_main_arg0 m c))
  · exact (RDat.FramePost.arr_in h.1 c 1 rfl).trans ((rA_eq m c 1).trans (V_main_arg1 m c))
  · exact ((h.1 c).2 main_arg2 (Pipeline.mem_restRefs_of main_arg2 (by decide) (by decide))).trans (V_main_arg2 m c)

end Cert.KernelIdeal.Hand

end
-- ==== Proof.Same.lean ====
/- The kernel and the kernel idealized are one program under two names, so the run proved of the second is a run of the first. -/
module

public import proofs.«01_k».proof.Proof.Gen.Kernel
public import proofs.«01_k».proof.Proof.Run
public import Idealize.ShloMosaic.Lib.Tactic

@[expose] public section

set_option maxRecDepth 16384

noncomputable section

namespace Cert.Kernel.Hand

open Idealize.ShloMosaic Idealize.ShloMosaic.TcCoe Idealize.ShloMosaic.Tactic
open Idealize.SL Idealize.SL.Sem
open Cert.Kernel

variable {F : FTy → Type} [FloatOps F]

/-- The two programs' body tables are equal. -/
theorem defs_eq : Kernel.defs (F := F) = KernelIdeal.defs (F := F) := by sl_kernel_rfl

/-- The two programs' main functions are equal. -/
theorem main_eq : Kernel.main (F := F) = KernelIdeal.main (F := F) := by sl_kernel_rfl

variable (m : (ℓ : Loc nD τ sig) → Buf (Elt F) ℓ) (ρ : Dev nD → PrngReg)

/-- The kernel runs, its arguments unchanged and every semaphore counter at zero. -/
theorem run_frame : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  rw [defs_eq, main_eq]
  exact θ_run_mono (KernelIdeal.Hand.run_value m ρ) fun r h => ⟨fun c => (h.1 c).2, h.2⟩

end Cert.Kernel.Hand

end
-- ==== Proof.Ref.lean ====
/- The reference's run: what its result array holds, the composed host operations named in stages. -/
module

public import proofs.«01_k».proof.Proof.Gen.ReferenceIdeal
public import Idealize.ShloMosaic.Lib.Claim
public import Idealize.ShloMosaic.Lib.Quiescent

@[expose] public section

set_option maxRecDepth 16384

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-- A number per batch entry, divided by a constant, with the two unit axes the reductions keep. -/
def over (n : BitVec 32) (s : FVec F S512 .f32) : FVec F S512x1x1 .f32 :=
  Host.divf (broadcastInDim S512x1x1 ![0] bcast_S512_S512x1x1_0 s) (broadcastInDim S512x1x1 ![] bcast_S_S512x1x1 (constant S_ .f32 n))

/-- The mean of a 1 × 256 target per batch entry. -/
def tMean (x : FVec F S512x1x256 .f32) : FVec F S512x1x1 .f32 :=
  over 0x43800000#32 (Host.reduceAdd x (constant S_ .f32 0x00000000#32) reducesTo_S512x1x256_S512_d1_2 h_S_)

/-- The targets less their means. -/
def tCent (x : FVec F S512x1x256 .f32) : FVec F S512x1x256 .f32 :=
  subf x (broadcastInDim S512x1x256 ![0, 1, 2] bcast_S512x1x1_S512x1x256_0_1_2 (tMean x))

/-- The targets, layer-normalised. -/
def tNorm (x : FVec F S512x1x256 .f32) : FVec F S512x1x256 .f32 :=
  Host.divf (tCent x) (broadcastInDim S512x1x256 ![0, 1, 2] bcast_S512x1x1_S512x1x256_0_1_2
    (Host.sqrt (addf (tMean (mulf (tCent x) (tCent x))) (broadcastInDim S512x1x1 ![] bcast_S_S512x1x1 (constant S_ .f32 0x3727C5AC#32)))))

/-- The mean of a 256 × 256 codebook per batch entry. -/
def cMean (x : FVec F S512x256x256 .f32) : FVec F S512x1x1 .f32 :=
  over 0x47800000#32 (Host.reduceAdd x (constant S_ .f32 0x00000000#32) reducesTo_S512x256x256_S512_d1_2 h_S_)

/-- The codebooks less their means. -/
def cCent (x : FVec F S512x256x256 .f32) : FVec F S512x256x256 .f32 :=
  subf x (broadcastInDim S512x256x256 ![0, 1, 2] bcast_S512x1x1_S512x256x256_0_1_2 (cMean x))

/-- The codebooks, layer-normalised. -/
def cNorm (x : FVec F S512x256x256 .f32) : FVec F S512x256x256 .f32 :=
  Host.divf (cCent x) (broadcastInDim S512x256x256 ![0, 1, 2] bcast_S512x1x1_S512x256x256_0_1_2
    (Host.sqrt (addf (cMean (mulf (cCent x) (cCent x))) (broadcastInDim S512x1x1 ![] bcast_S_S512x1x1 (constant S_ .f32 0x3727C5AC#32)))))

/-- The projected targets. -/
def tgt (x : FVec F S512x16384 .f32) (w : FVec F S256x16384 .f32) : FVec F S512x1x256 .f32 :=
  broadcastInDim S512x1x256 ![0, 2] bcast_S512x256_S512x1x256_0_2
    (Host.dotGeneral dot_S512x16384_S16384x256_S512x256_1_0_0_1_n_n none x (transpose S16384x256 [1, 0] w transposes_S256x16384_S16384x256_1_0))

/-- The first 256 rows of the codebook, per batch entry. -/
def book (q : FVec F S8192x256 .f32) : FVec F S512x256x256 .f32 :=
  extractStridedSlice S512x256x256 ![0, 0, 0] (broadcastInDim S512x8192x256 ![0, 1, 2] bcast_S1x8192x256_S512x8192x256_0_1_2
    (broadcastInDim S1x8192x256 ![1, 2] bcast_S8192x256_S1x8192x256_1_2 q)) slices_S512x8192x256_S512x256x256_0_0_0

/-- The differences the labels are the least of. -/
def diff (x : FVec F S512x16384 .f32) (w : FVec F S256x16384 .f32) (q : FVec F S8192x256 .f32) : FVec F S512x256x256 .f32 :=
  subf (broadcastInDim S512x256x256 ![0, 1, 2] bcast_S512x1x256_S512x256x256_0_1_2 (tNorm (tgt x w))) (cNorm (book q))

/-- The labels of differences `d`: the arg-min along the last axis. -/
def least (d : FVec F S512x256x256 .f32) : IVec S512x256 32 := fun j =>
  (Host.argReduce reducer_argmin_f32_i32 d (iotaInDim S512x256x256 32 2) (constant S_ .f32 0x7F800000#32) (constantI S_ 32 0#32)
    reducesTo_S512x256x256_S512x256_d2 h_S_ j).2

variable (m : (ℓ : Loc nD τ sig) → Buf (Elt F) ℓ) (ρ : Dev nD → PrngReg)

set_option maxHeartbeats 4000000 in
/-- The reference runs to the labels in its result array, its arguments unchanged. -/
theorem run_value : θ_run (defs (F := F)) (onTc (τ := τ) (main (F := F))) ⟨m, fun _ => 0, ρ⟩ (fun r => ∀ c : Dev nD,
    r.2.mem ((c.tc : Thread nD τ).loc main_v44)
        = least (diff (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  all_goals rfl

/-- The reference, which has no semaphores, ends with every semaphore counter at zero and its arguments unchanged. -/
theorem run_frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  θ_run_mono (run_value m ρ) fun r h => ⟨fun c => (h c).2, sem_eq_zero_of_no_sems rfl r.2⟩

end Cert.ReferenceIdeal.Hand

end
-- ==== Proof.Math.lean ====
/- The mathematics both programs share, over the extended reals: layer normalisation over a finite index set, and the
   first index at which a finite sequence is least, as a fold. -/
module

public import Idealize.ShloMosaic.PureOps.Ideal.Laws

@[expose] public section

noncomputable section

namespace Cert.Argmin

open Idealize.ShloMosaic

/-- The small number added to a variance, the one both programs write. -/
def eps : EReal := Ideal.ofBits .f32 0x3727C5AC#32

/-- The mean of `f`, the number of entries given as `n`. -/
def mean {ι : Type} [Fintype ι] (n : EReal) (f : ι → EReal) : EReal := Ideal.div (∑ k, f k) n

/-- `f` layer-normalised over its whole index set, read at `i`. -/
def norm {ι : Type} [Fintype ι] (n : EReal) (f : ι → EReal) (i : ι) : EReal :=
  Ideal.div (f i - mean n f) (Ideal.sqrt (mean n (fun k => (f k - mean n f) * (f k - mean n f)) + eps))

/-- Re-indexing by a bijection commutes with the mean. -/
theorem mean_equiv {ι κ : Type} [Fintype ι] [Fintype κ] (e : ι ≃ κ) (n : EReal) (f : κ → EReal) : mean n (fun i => f (e i)) = mean n f := by
  unfold mean
  rw [Equiv.sum_comp e f]

/-- Re-indexing by a bijection commutes with layer normalisation. -/
theorem norm_equiv {ι κ : Type} [Fintype ι] [Fintype κ] (e : ι ≃ κ) (n : EReal) (f : κ → EReal) (i : ι) :
    norm n (fun i => f (e i)) i = norm n f (e i) := by
  unfold norm
  rw [mean_equiv e n f, mean_equiv e n (fun k => (f k - mean n f) * (f k - mean n f))]

/-- One step of the search: the least value so far and its index, over the next value `d` of index `k`. -/
def step (d : Nat → EReal) (p : EReal × BitVec 32) (k : Nat) : EReal × BitVec 32 :=
  (min p.1 (d k), if d k < p.1 then BitVec.ofNat 32 k else p.2)

/-- `n` steps of the search from index `j`. -/
def search (d : Nat → EReal) (j n : Nat) (p : EReal × BitVec 32) : EReal × BitVec 32 := (List.range' j n).foldl (step d) p

/-- The index of the first least value of `d` among the first `n`: zero if none is below the top. -/
def argmin (d : Nat → EReal) (n : Nat) : BitVec 32 := (search d 0 n (⊤, 0#32)).2

theorem search_zero (d : Nat → EReal) (j : Nat) (p : EReal × BitVec 32) : search d j 0 p = p := rfl

theorem search_succ (d : Nat → EReal) (j n : Nat) (p : EReal × BitVec 32) : search d j (n + 1) p = search d (j + 1) n (step d p j) := rfl

/-- A search of `a + b` steps is one of `a` and then one of `b`. -/
theorem search_add (d : Nat → EReal) (a b : Nat) : ∀ (j : Nat) (p : EReal × BitVec 32),
    search d j (a + b) p = search d (j + a) b (search d j a p) := by
  induction a with
  | zero => intro j p; rw [Nat.zero_add]; rfl
  | succ a ih => intro j p; rw [Nat.succ_add, search_succ, search_succ, ih, Nat.succ_add_eq_add_succ]

/-- A search started at any pair is that pair merged with the search started at the top: the later one's index where its
    value is strictly below. -/
theorem search_merge (d : Nat → EReal) (n : Nat) : ∀ (j : Nat) (m : EReal) (i z : BitVec 32),
    search d j n (m, i) = (min m (search d j n (⊤, z)).1, if (search d j n (⊤, z)).1 < m then (search d j n (⊤, z)).2 else i) := by
  induction n with
  | zero => intro j m i z; simp [search_zero]
  | succ n ih =>
    intro j m i z
    rw [search_succ, search_succ]
    unfold step
    rw [ih (j + 1) _ _ z, ih (j + 1) (min ⊤ (d j)) _ z]
    generalize search d (j + 1) n (⊤, z) = q
    simp only [top_inf_eq]
    rw [inf_assoc]
    refine Prod.ext rfl ?_
    show (if q.1 < min m (d j) then q.2 else if d j < m then BitVec.ofNat 32 j else i)
      = if min (d j) q.1 < m then (if q.1 < d j then q.2 else if d j < ⊤ then BitVec.ofNat 32 j else z) else i
    by_cases h1 : q.1 < d j
    · by_cases h2 : q.1 < m
      · rw [if_pos (lt_min h2 h1), if_pos (min_lt_of_right_lt h2), if_pos h1]
      · have h3 : ¬ d j < m := fun h => h2 (h1.trans h)
        rw [if_neg (fun h => h2 (lt_min_iff.mp h).1), if_neg h3, if_neg (fun h => (min_lt_iff.mp h).elim h3 h2)]
    · rw [if_neg (fun h => h1 (lt_min_iff.mp h).2)]
      by_cases h3 : d j < m
      · rw [if_pos h3, if_pos (min_lt_of_left_lt h3), if_neg h1, if_pos (lt_of_lt_of_le h3 le_top)]
      · have h2 : ¬ q.1 < m := fun h => h3 (lt_of_le_of_lt (not_lt.mp h1) h)
        rw [if_neg h3, if_neg (fun h => (min_lt_iff.mp h).elim h3 h2)]

/-- Two halves searched apart and merged give the search of the whole. -/
theorem argmin_halves (d : Nat → EReal) (a b : Nat) :
    (if (search d a b (⊤, 0#32)).1 < (search d 0 a (⊤, 0#32)).1 then (search d a b (⊤, 0#32)).2 else (search d 0 a (⊤, 0#32)).2)
      = argmin d (a + b) := by
  unfold argmin
  rw [search_add, Nat.zero_add, search_merge d b a (search d 0 a (⊤, 0#32)).1 (search d 0 a (⊤, 0#32)).2 0#32]

/-- A search reads the sequence only at the indices it visits. -/
theorem search_congr (d d' : Nat → EReal) (n : Nat) : ∀ (j : Nat) (p : EReal × BitVec 32), (∀ k, j ≤ k → k < j + n → d k = d' k) →
    search d j n p = search d' j n p := by
  induction n with
  | zero => intro j p _; rfl
  | succ n ih =>
    intro j p h
    rw [search_succ, search_succ, ih (j + 1) _ fun k h1 h2 => h k (by omega) (by omega)]
    unfold step
    rw [h j (le_refl j) (by omega)]

/-- The first least index depends only on the values searched. -/
theorem argmin_congr (d d' : Nat → EReal) (n : Nat) (h : ∀ k, k < n → d k = d' k) : argmin d n = argmin d' n :=
  congrArg Prod.snd (search_congr d d' n 0 _ fun k _ hk => h k (by omega))

end Cert.Argmin

end
-- ==== Proof.Labels.lean ====
/- What one block of the kernel computes: at each entry the index of the first least difference of a target row and a
   column of the transposed codebook. -/
module

public import proofs.«01_k».proof.Proof.Math
public import proofs.«01_k».proof.Proof.Steps
public import Idealize.ShloMosaic.Lib.Pointwise

@[expose] public section

set_option maxRecDepth 16384

noncomputable section

namespace Cert.KernelIdeal.Hand

open Idealize.ShloMosaic
open Cert.Argmin
open Cert.KernelIdeal Cert.KernelIdeal.Gen

/-- The differences of row `r` of `T` and column `q` of `C`, as a sequence. -/
def gap (T : Vec Ideal S64x256 .f32) (C : Vec Ideal S256x256 .f32) (r : Fin 64) (q : Fin 256) (k : Nat) : EReal :=
  T (ix2 r (⟨k % 256, Nat.mod_lt _ (by decide)⟩ : Fin 256)) - C (ix2 (⟨k % 256, Nat.mod_lt _ (by decide)⟩ : Fin 256) q)

/-- A column of the target block at a row. -/
theorem col_apply (T : Vec Ideal S64x256 .f32) (j : Nat) (h : j < 256) (r : Fin 64) (z : Fin 1) : col T j h (ix2 r z) = T (ix2 r (⟨j, h⟩ : Fin 256)) := by
  obtain rfl : z = 0 := Subsingleton.elim _ _
  refine congrArg T (funext fun a => Fin.ext ?_)
  match a with
  | ⟨0, _⟩ => show 0 + 1 * r.val = r.val; omega
  | ⟨1, _⟩ => show j + 1 * 0 = j; omega

/-- A row of the transposed codebook at a lane. -/
theorem row_apply (C : Vec Ideal S256x256 .f32) (j : Nat) (h : j < 256) (z : Fin 1) (q : Fin 256) : row C j h (ix2 z q) = C (ix2 (⟨j, h⟩ : Fin 256) q) := by
  obtain rfl : z = 0 := Subsingleton.elim _ _
  refine congrArg C (funext fun a => Fin.ext ?_)
  match a with
  | ⟨0, _⟩ => show j + 1 * 0 = j; omega
  | ⟨1, _⟩ => show 0 + 1 * q.val = q.val; omega

/-- The distances of step `j` are the differences at index `j`. -/
theorem dist_apply (T : Vec Ideal S64x256 .f32) (C : Vec Ideal S256x256 .f32) (j : Nat) (h : j < 256) (r : Fin 64) (q : Fin 256) :
    dist (F := Ideal) (col T j h) (row C j h) (ix2 r q) = gap T C r q j := by
  have e : (⟨j % 256, Nat.mod_lt _ (by decide)⟩ : Fin 256) = ⟨j, h⟩ := Fin.ext (Nat.mod_eq_of_lt h)
  unfold gap
  rw [e]
  pointwise [dist, col_apply, row_apply]

/-- The kernel's update of its minimum and index is one step of the search. -/
theorem new_apply (j : Nat) (d m : FVec Ideal S64x256 .f32) (ix : IVec S64x256 32) (g : Nat → EReal) (i : S64x256.Idx) (hd : d i = g j) :
    (newM d m i, newI j d m ix i) = step g (m i, ix i) j := by
  unfold step
  rw [← hd]
  refine Prod.ext rfl ?_
  show (if Ideal.cmp .olt (d i) (m i) = 1#1 then BitVec.ofNat 32 j else ix i) = if d i < m i then BitVec.ofNat 32 j else ix i
  by_cases h : d i < m i <;> simp [Ideal.cmp, h]

/-- A run of steps is, at each entry, a search. -/
theorem run_apply (T : Vec Ideal S64x256 .f32) (C : Vec Ideal S256x256 .f32) (r : Fin 64) (q : Fin 256) : ∀ (n j : Nat) (h : j + n ≤ 256)
    (m : FVec Ideal S64x256 .f32) (ix : IVec S64x256 32),
    ((run T C n j h m ix).1 (ix2 r q), (run T C n j h m ix).2 (ix2 r q)) = search (gap T C r q) j n (m (ix2 r q), ix (ix2 r q))
  | 0, j, h, m, ix => rfl
  | n + 1, j, h, m, ix => by
    rw [search_succ, ← new_apply j _ m ix (gap T C r q) (ix2 r q) (dist_apply T C j (by omega) r q),
      ← run_apply T C r q n (j + 1) (by omega) _ _]
    rfl

/-- The pattern the kernel's search starts from is the top. -/
theorem m0_apply (i : S64x256.Idx) : m0 (F := Ideal) i = ⊤ := by
  show Ideal.ofBits .f32 0x7F800000#32 = ⊤
  simp [Ideal.ofBits, Ideal.ieee]

/-- Two results merged, at an entry. -/
theorem merge_apply (m1 : FVec Ideal S64x256 .f32) (i1 : IVec S64x256 32) (m2 : FVec Ideal S64x256 .f32) (i2 : IVec S64x256 32) (i : S64x256.Idx) :
    merge m1 i1 m2 i2 i = if m2 i < m1 i then i2 i else i1 i := by
  show (if Ideal.cmp .olt (m2 i) (m1 i) = 1#1 then i2 i else i1 i) = _
  by_cases h : m2 i < m1 i <;> simp [Ideal.cmp, h]

/-- Two runs of `a` and `b` steps merged give, at each entry, the index of the first least difference of the `a + b`. -/
theorem halves_apply (T : Vec Ideal S64x256 .f32) (C : Vec Ideal S256x256 .f32) (r : Fin 64) (q : Fin 256) (a b : Nat) (ha : 0 + a ≤ 256) (hb : a + b ≤ 256) :
    merge (run T C a 0 ha m0 i0).1 (run T C a 0 ha m0 i0).2 (run T C b a hb m0 i0).1 (run T C b a hb m0 i0).2 (ix2 r q) = argmin (gap T C r q) (a + b) := by
  have e1 := run_apply T C r q a 0 ha m0 i0
  have e2 := run_apply T C r q b a hb m0 i0
  rw [m0_apply] at e1 e2
  rw [merge_apply, ← argmin_halves]
  have z : i0 (ix2 r q) = 0#32 := rfl
  rw [z] at e1 e2
  rw [← e1, ← e2]

/-- The labels a block stores: at each entry the index of the first least difference. -/
theorem outOf_apply (T : Vec Ideal S64x256 .f32) (C : Vec Ideal S256x256 .f32) (r : Fin 64) (q : Fin 256) :
    outOf T C (ix2 r q) = argmin (gap T C r q) 256 := by
  unfold outOf
  rw [halves_apply]

end Cert.KernelIdeal.Hand

end
-- ==== Proof.Norms.lean ====
/- What the kernel's and the reference's stages are at an index, over the extended reals. -/
module

public import proofs.«01_k».proof.Proof.Math
public import proofs.«01_k».proof.Proof.Ref
public import proofs.«01_k».proof.Proof.Body
public import Idealize.ShloMosaic.Lib.Pointwise

@[expose] public section

set_option maxRecDepth 16384

noncomputable section

namespace Cert.Stages

open Idealize.ShloMosaic
open Cert.Argmin
open Cert.KernelIdeal (S64x1 S1x256 S64x256 S64x16384 S256x16384 S256x256 S8192x256)
open Cert.ReferenceIdeal (S512x1x256 S512x256x256 S512x16384)

/-- The number of entries of a target row, as both programs write it. -/
def n256 : EReal := Ideal.ofBits .f32 0x43800000#32

/-- The number of entries of a codebook, as both programs write it. -/
def n65536 : EReal := Ideal.ofBits .f32 0x47800000#32

/-- The kernel's mean of a row. -/
theorem rowMean_apply (t : FVec Ideal S64x256 .f32) (r : Fin 64) (z : Fin 1) :
    KernelIdeal.Hand.rowMean t (ix2 r z) = mean n256 (fun k : Fin 256 => t (ix2 r k)) := by
  pointwise [KernelIdeal.Hand.rowMean]
  rfl

/-- The kernel's normalised row. -/
theorem rowNorm_apply (t : FVec Ideal S64x256 .f32) (r : Fin 64) (k : Fin 256) :
    KernelIdeal.Hand.rowNorm t (ix2 r k) = norm n256 (fun k : Fin 256 => t (ix2 r k)) k := by
  pointwise [KernelIdeal.Hand.rowNorm, KernelIdeal.Hand.rowCent, rowMean_apply]
  rfl

/-- The kernel's projection of a block. -/
theorem proj_apply (x : FVec Ideal S64x16384 .f32) (w : FVec Ideal S256x16384 .f32) (r : Fin 64) (k : Fin 256) :
    KernelIdeal.Hand.proj x w (ix2 r k) = ∑ f : Fin 16384, x (ix2 r f) * w (ix2 k f) := by
  pointwise [KernelIdeal.Hand.proj]

/-- The kernel's target scratch. -/
theorem tnOf_apply (x : FVec Ideal S64x16384 .f32) (w : FVec Ideal S256x16384 .f32) (r : Fin 64) (k : Fin 256) :
    KernelIdeal.Hand.tnOf x w (ix2 r k) = norm n256 (fun k : Fin 256 => ∑ f : Fin 16384, x (ix2 r f) * w (ix2 k f)) k := by
  unfold KernelIdeal.Hand.tnOf
  rw [shapeCast_self, rowNorm_apply]
  simp only [proj_apply]

/-- The kernel's mean of a whole codebook. -/
theorem allMean_apply (c : FVec Ideal S256x256 .f32) :
    KernelIdeal.Hand.allMean c = mean n65536 (fun p : Fin 256 × Fin 256 => c (ix2 p.1 p.2)) := by
  unfold mean
  rw [Fintype.sum_prod_type]
  pointwise [KernelIdeal.Hand.allMean, extractAt]
  rfl

/-- The kernel's normalised codebook. -/
theorem cnOf_apply (c : FVec Ideal S256x256 .f32) (a b : Fin 256) :
    KernelIdeal.Hand.cnOf c (ix2 a b) = norm n65536 (fun p : Fin 256 × Fin 256 => c (ix2 p.1 p.2)) (a, b) := by
  unfold KernelIdeal.Hand.cnOf
  rw [shapeCast_self, shapeCast_self]
  pointwise [KernelIdeal.Hand.allNorm, KernelIdeal.Hand.allCent, allMean_apply]
  rfl

/-- The reference's mean of a target. -/
theorem tMean_apply (x : FVec Ideal S512x1x256 .f32) (b : Fin 512) (y z : Fin 1) :
    ReferenceIdeal.Hand.tMean x (ix3 b y z) = mean n256 (fun k : Fin 256 => x (ix3 b 0 k)) := by
  pointwise [ReferenceIdeal.Hand.tMean, ReferenceIdeal.Hand.over]
  rw [Fin.sum_univ_one]
  rfl

/-- The reference's normalised target. -/
theorem tNorm_apply (x : FVec Ideal S512x1x256 .f32) (b : Fin 512) (z : Fin 1) (k : Fin 256) :
    ReferenceIdeal.Hand.tNorm x (ix3 b z k) = norm n256 (fun k : Fin 256 => x (ix3 b 0 k)) k := by
  obtain rfl : z = 0 := Subsingleton.elim _ _
  pointwise [ReferenceIdeal.Hand.tNorm, ReferenceIdeal.Hand.tCent, tMean_apply]
  rfl

/-- The reference's projection. -/
theorem tgt_apply (x : FVec Ideal S512x16384 .f32) (w : FVec Ideal S256x16384 .f32) (b : Fin 512) (z : Fin 1) (k : Fin 256) :
    ReferenceIdeal.Hand.tgt x w (ix3 b z k) = ∑ f : Fin 16384, x (ix2 b f) * w (ix2 k f) := by
  pointwise [ReferenceIdeal.Hand.tgt]

/-- The reference's mean of a codebook. -/
theorem cMean_apply (x : FVec Ideal S512x256x256 .f32) (b : Fin 512) (y z : Fin 1) :
    ReferenceIdeal.Hand.cMean x (ix3 b y z) = mean n65536 (fun p : Fin 256 × Fin 256 => x (ix3 b p.1 p.2)) := by
  unfold mean
  rw [Fintype.sum_prod_type]
  pointwise [ReferenceIdeal.Hand.cMean, ReferenceIdeal.Hand.over]
  rfl

/-- The reference's normalised codebook. -/
theorem cNorm_apply (x : FVec Ideal S512x256x256 .f32) (b : Fin 512) (q k : Fin 256) :
    ReferenceIdeal.Hand.cNorm x (ix3 b q k) = norm n65536 (fun p : Fin 256 × Fin 256 => x (ix3 b p.1 p.2)) (q, k) := by
  pointwise [ReferenceIdeal.Hand.cNorm, ReferenceIdeal.Hand.cCent, cMean_apply]
  rfl

/-- The reference's codebook is the array's first 256 rows. -/
theorem book_apply (c : FVec Ideal S8192x256 .f32) (b : Fin 512) (q k : Fin 256) :
    ReferenceIdeal.Hand.book c (ix3 b q k) = c (ix2 (⟨q.val, Nat.lt_trans q.isLt (by decide)⟩ : Fin 8192) k) := by
  pointwise [ReferenceIdeal.Hand.book]

/-- The reference's differences. -/
theorem diff_apply (x : FVec Ideal S512x16384 .f32) (w : FVec Ideal S256x16384 .f32) (c : FVec Ideal S8192x256 .f32) (b : Fin 512) (q k : Fin 256) :
    ReferenceIdeal.Hand.diff x w c (ix3 b q k)
      = norm n256 (fun k : Fin 256 => ∑ f : Fin 16384, x (ix2 b f) * w (ix2 k f)) k
        - norm n65536 (fun p : Fin 256 × Fin 256 => c (ix2 (⟨p.1.val, Nat.lt_trans p.1.isLt (by decide)⟩ : Fin 8192) p.2)) (q, k) := by
  pointwise [ReferenceIdeal.Hand.diff, tNorm_apply, cNorm_apply, tgt_apply, book_apply]

end Cert.Stages

end
-- ==== Proof.Blocks.lean ====
/- What the kernel's input blocks hold, read off the arguments, and what its result array holds in terms of them. -/
module

public import proofs.«01_k».proof.Proof.Final
public import proofs.«01_k».proof.Proof.Labels
public import proofs.«01_k».proof.Proof.Norms
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (RDat Cfg Window)
open Cert.Argmin Cert.Stages
open Cert.KernelIdeal Cert.KernelIdeal.Gen

variable (m : (ℓ : Loc nD τ sig) → Buf (Elt Ideal) ℓ)

theorem index_0 : ∀ t : Fin cfg0.N, win0_0.index t = ![min t.val 7, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)

/-- The block of input rows at the point that computes the targets of row `b` holds row `b` at its row `b % 64`. -/
theorem rows_apply (c : Dev nD) (b : Fin 512) (f : Fin 16384) :
    iblk m c 0 (rowPt b.val b.isLt) (ix2 (⟨b.val % 64, Nat.mod_lt _ (by decide)⟩ : Fin 64) f) = m ((c.tc : Thread nD τ).loc main_arg0) (ix2 b f) := by
  have hb := b.isLt
  have ht : (rowPt b.val b.isLt).val = b.val / 64 := rfl
  unfold iblk
  rw [show V m c (Pipeline.arrRef spec0 0) = m ((c.tc : Thread nD τ).loc main_arg0) from V_main_arg0 m c]
  blk_ext [index_0, ht]

/-- The projection's block is the whole projection. -/
theorem proj_block (c : Dev nD) (t : Fin cfg0.N) (k : Fin 256) (f : Fin 16384) :
    iblk m c 1 t (ix2 k f) = m ((c.tc : Thread nD τ).loc main_arg1) (ix2 k f) := by
  unfold iblk
  rw [show V m c (Pipeline.arrRef spec0 1) = m ((c.tc : Thread nD τ).loc main_arg1) from V_main_arg1 m c]
  blk_ext [index_1]

/-- The region finds the codebook's first 256 rows, transposed, in the third array. -/
theorem V_book (c : Dev nD) : V m c main_v1 = transpose S256x256 [1, 0]
    (extractStridedSlice S256x256 ![0, 0] (m ((c.tc : Thread nD τ).loc main_arg2)) slices_S8192x256_S256x256_0_0) transposes_S256x256_S256x256_1_0 := by
  entry_read
  rfl

/-- The codebook's block is the first 256 rows of the codebook, transposed. -/
theorem book_block (c : Dev nD) (t : Fin cfg0.N) (k q : Fin 256) :
    iblk m c 2 t (ix2 k q) = m ((c.tc : Thread nD τ).loc main_arg2) (ix2 (⟨q.val, Nat.lt_trans q.isLt (by decide)⟩ : Fin 8192) k) := by
  unfold iblk
  rw [show V m c (Pipeline.arrRef spec0 2) = _ from V_book m c]
  blk_simp
  rw [show (win0_2.blk t).view.emb (ix2 k q) = ix2 k q by blk_ext [index_2]]
  pointwise
  try blk_ext

end Cert.KernelIdeal.Hand

end
-- ==== Proof.Fiber.lean ====
/- The reference's arg-min along the last axis of three: the labels are the indices of the first least values. -/
module

public import proofs.«01_k».proof.Proof.Math
public import proofs.«01_k».proof.Proof.Ref
public import Idealize.ShloMosaic.PureOps.Reduce
public import Idealize.ShloMosaic.Lib.Pointwise

@[expose] public section

set_option maxRecDepth 16384

noncomputable section

namespace Cert.ReferenceIdeal.Hand

open Idealize.ShloMosaic Idealize.ShloMosaic.TcCoe
open Cert.ReferenceIdeal Cert.ReferenceIdeal.Gen
open Cert.Argmin

/-- Two strictly increasing lists with the same members are equal. -/
theorem increasing_ext {n : Nat} {l₁ l₂ : List (Fin n)} (h₁ : l₁.Pairwise (· < ·)) (h₂ : l₂.Pairwise (· < ·)) (h : ∀ x, x ∈ l₁ ↔ x ∈ l₂) :
    l₁ = l₂ :=
  List.Perm.eq_of_pairwise (fun a b _ _ hab hba => absurd hab (lt_asymm hba)) h₁ h₂
    ((List.perm_ext_iff_of_nodup (h₁.imp ne_of_lt) (h₂.imp ne_of_lt)).mpr h)

/-- A two-operand reduction at `j` folds along any listing `e` of the indices that drop to `j` in row-major order. -/
theorem reduce2_along {s t u : Shape} {axes : List (Fin s.rank)} {α β : Type} (f : α × β → α × β → α × β) (x : s.Idx → α) (y : s.Idx → β)
    (ix : u.Idx → α) (iy : u.Idx → β) (h : s.ReducesTo axes t) (hu : 0 < u.numel) (j : t.Idx) {N : Nat} (e : Fin N → s.Idx)
    (hdrop : ∀ i, h.drop i = j ↔ ∃ k, e k = i) (hmono : ∀ k k', k < k' → s.rowMajor (e k) < s.rowMajor (e k')) :
    Host.reduce2 f x y ix iy h hu j
      = (List.finRange N).foldl (fun r k => f r (x (e k), y (e k))) (ix (Shape.Idx.first hu), iy (Shape.Idx.first hu)) := by
  rw [Host.reduce2_eq_foldl_fiber]
  unfold Host.argReduceFiber
  have key : ((List.finRange s.numel).filter fun n => h.drop (s.rowMajor.symm n) = j) = (List.finRange N).map fun k => s.rowMajor (e k) := by
    refine increasing_ext ((List.pairwise_lt_finRange _).filter _) ?_ fun n => ?_
    · rw [List.pairwise_map]
      exact (List.pairwise_lt_finRange _).imp fun {k k'} hk => hmono k k' hk
    · simp only [List.mem_filter, List.mem_finRange, true_and, decide_eq_true_eq, List.mem_map]
      rw [hdrop]
      exact exists_congr fun k => ⟨fun e => by rw [e, Equiv.apply_symm_apply], fun e => by rw [← e, Equiv.symm_apply_apply]⟩
  rw [key, List.map_map, List.foldl_map]
  simp only [Function.comp, Equiv.symm_apply_apply]

/-- The indices that drop to `(b, q)` are the `(b, q, k)`. -/
theorem drop_iff (b : Fin 512) (q : Fin 256) (i : S512x256x256.Idx) :
    reducesTo_S512x256x256_S512x256_d2.drop i = (ix2 b q : S512x256.Idx) ↔ ∃ k : Fin 256, (ix3 b q k : S512x256x256.Idx) = i := by
  constructor
  · intro e
    refine ⟨i 2, ?_⟩
    have e0 : i 0 = b := Fin.ext (by
      rw [← reducesTo_S512x256x256_S512x256_d2.drop_apply_val_of_eq i 0 0 (by decide) (by decide), e]; rfl)
    have e1 : i 1 = q := Fin.ext (by
      rw [← reducesTo_S512x256x256_S512x256_d2.drop_apply_val_of_eq i 1 1 (by decide) (by decide), e]; rfl)
    rw [← e0, ← e1]
    exact (eq_ix3 i).symm
  · rintro ⟨k, rfl⟩
    funext a
    match a with
    | ⟨0, _⟩ => exact Fin.ext (reducesTo_S512x256x256_S512x256_d2.drop_apply_val_of_eq (ix3 b q k) 0 0 (by decide) (by decide))
    | ⟨1, _⟩ => exact Fin.ext (reducesTo_S512x256x256_S512x256_d2.drop_apply_val_of_eq (ix3 b q k) 1 1 (by decide) (by decide))

/-- The `(b, q, k)` come in the order of `k`. -/
theorem rowMajor_mono (b : Fin 512) (q : Fin 256) (k k' : Fin 256) (hk : k < k') :
    S512x256x256.rowMajor (ix3 b q k : S512x256x256.Idx) < S512x256x256.rowMajor (ix3 b q k' : S512x256x256.Idx) := by
  rw [Fin.lt_def, rowMajor_val3 (d := ![512, 256, 256]) _ 65536 256 rfl rfl, rowMajor_val3 (d := ![512, 256, 256]) _ 65536 256 rfl rfl]
  exact Nat.add_lt_add_left hk _

/-- One step of the reference's reducer over the extended reals, at an index not below the one it holds, is a step of the search. -/
theorem reducer_step (d : Nat → EReal) (p : EReal × BitVec 32) (k : Nat) (hk : k < 256) (hp : p.2.toNat < k ∨ p.2 = BitVec.ofNat 32 k) :
    reducer_argmin_f32_i32 (F := Ideal) p (d k, BitVec.ofNat 32 k) = step d p k := by
  obtain ⟨a, i⟩ := p
  have hs : i.toNat < k → BitVec.slt i (BitVec.ofNat 32 k) = true := by
    intro h
    have e2 : (BitVec.ofNat 32 k).toNat = k := by rw [BitVec.toNat_ofNat]; omega
    rw [BitVec.slt, decide_eq_true_eq, BitVec.toInt_eq_toNat_of_lt (by omega), BitVec.toInt_eq_toNat_of_lt (by omega), e2]
    exact_mod_cast h
  unfold reducer_argmin_f32_i32 step
  simp only [Ideal.cmpf_def, Ideal.cmp, IntOp.ori, IntOp.andi, IntOp.cmpi, Scalar.select]
  rcases lt_trichotomy a (d k) with h | h | h
  · have h1 : decide (a < d k) = true := decide_eq_true h
    have h2 : decide (a = d k) = false := decide_eq_false h.ne
    simp [h1, h2, h.le, not_lt.mpr h.le]
  · subst h
    rcases hp with hp | hp
    · simp [hs hp]
    · simp only at hp
      subst hp
      simp
  · simp [h, h.le, not_lt.mpr h.le, h.ne']

/-- The reference's reducer folded over the first `n` indices is the search. -/
theorem reducer_fold (d : Nat → EReal) (n : Nat) : ∀ (j : Nat) (p : EReal × BitVec 32), j + n ≤ 256 → (p.2.toNat < j ∨ p.2 = BitVec.ofNat 32 j) →
    (List.range' j n).foldl (fun r k => reducer_argmin_f32_i32 (F := Ideal) r (d k, BitVec.ofNat 32 k)) p = search d j n p := by
  induction n with
  | zero => intro j p _ _; rfl
  | succ n ih =>
    intro j p hj hp
    rw [search_succ, List.range'_succ, List.foldl_cons, reducer_step d p j (by omega) hp]
    refine ih (j + 1) _ (by omega) (.inl ?_)
    unfold step
    have e2 : (BitVec.ofNat 32 j).toNat = j := by rw [BitVec.toNat_ofNat]; omega
    show (if d j < p.1 then BitVec.ofNat 32 j else p.2).toNat < j + 1
    split
    · omega
    · rcases hp with hp | hp
      · omega
      · rw [hp]; omega

/-- The reference's reducer folded over all of a row is the search of that row. -/
theorem reducer_row (n : Nat) (hn : n ≤ 256) (D : Fin n → EReal) (d : Nat → EReal) (hd : ∀ k : Fin n, d k.val = D k) (p : EReal × BitVec 32)
    (hp : p.2 = 0#32) :
    (List.finRange n).foldl (fun r k => reducer_argmin_f32_i32 (F := Ideal) r (D k, BitVec.ofNat 32 k.val)) p = search d 0 n p := by
  rw [← reducer_fold d n 0 p (by omega) (.inr hp), ← List.range_eq_range', ← List.map_coe_finRange_eq_range, List.foldl_map]
  simp only [hd]

/-- The reference's reduction at `(b, q)` is a fold along the last axis. -/
theorem pair_fold (x : FVec Ideal S512x256x256 .f32) (y : S512x256x256.Idx → BitVec 32) (ix : S_.Idx → Ideal .f32) (iy : S_.Idx → BitVec 32)
    (b : Fin 512) (q : Fin 256) :
    Host.argReduce reducer_argmin_f32_i32 x y ix iy reducesTo_S512x256x256_S512x256_d2 h_S_ (ix2 b q)
      = (List.finRange 256).foldl (fun r k => reducer_argmin_f32_i32 r (x (ix3 b q k), y (ix3 b q k)))
        (ix (Shape.Idx.first h_S_), iy (Shape.Idx.first h_S_)) := by
  rw [Ideal.argReduce_eq_reduce2]
  exact reduce2_along _ x y ix iy _ h_S_ (ix2 b q) (fun k : Fin 256 => (ix3 b q k : S512x256x256.Idx)) (drop_iff b q) (rowMajor_mono b q)

/-- The pattern the reference's search starts from is the top. -/
theorem ofBits_top : Ideal.ofBits .f32 0x7F800000#32 = ⊤ := by
  simp [Ideal.ofBits, Ideal.ieee]

/-- The reduction at `(b, q)`, from the top and zero and over the last coordinate, is the search of the row there. -/
theorem pair_search (x : FVec Ideal S512x256x256 .f32) (b : Fin 512) (q : Fin 256) :
    Host.argReduce reducer_argmin_f32_i32 x (iotaInDim S512x256x256 32 2) (constant S_ .f32 0x7F800000#32) (constantI S_ 32 0#32)
        reducesTo_S512x256x256_S512x256_d2 h_S_ (ix2 b q)
      = search (fun k => x (ix3 b q (⟨k % 256, Nat.mod_lt _ (by decide)⟩ : Fin 256))) 0 256 (⊤, 0#32) := by
  rw [pair_fold]
  refine Eq.trans ?_ (reducer_row 256 (le_refl _) (fun k => x (ix3 b q k)) _
    (fun k => congrArg (fun k' => x (ix3 b q k')) (Fin.ext (Nat.mod_eq_of_lt k.isLt))) (⊤, 0#32) rfl)
  have e : ((constant S_ .f32 0x7F800000#32 : FVec Ideal S_ .f32) (Shape.Idx.first h_S_), constantI S_ 32 0#32 (Shape.Idx.first h_S_)) = ((⊤ : EReal), 0#32) :=
    Prod.ext ofBits_top rfl
  rw [e]
  rfl

/-- The reference's labels are the indices of the first least differences along the last axis. -/
theorem least_eq (x : FVec Ideal S512x256x256 .f32) :
    least x = fun j : S512x256.Idx => argmin (fun k => x (ix3 (j 0) (j 1) (⟨k % 256, Nat.mod_lt _ (by decide)⟩ : Fin 256))) 256 := by
  unfold least
  refine funext fun j => ?_
  unfold argmin
  rw [← pair_search x (j 0) (j 1), ← eq_ix2 j]

end Cert.ReferenceIdeal.Hand

end
-- ==== Proof.Equation.lean ====
/- The equation: the kernel's labels are the reference's. -/
module

public import proofs.«01_k».proof.Proof.Blocks
public import proofs.«01_k».proof.Proof.Fiber

@[expose] public section

set_option maxRecDepth 16384

noncomputable section

namespace Cert.Equation

open Idealize.ShloMosaic Idealize.ShloMosaic.TcCoe
open Cert.Argmin Cert.Stages
open Cert.KernelIdeal (nD τ sig main_arg0 main_arg1 main_arg2 S512x256 S512x16384 S256x16384 S8192x256)
open Cert.KernelIdeal.Hand (result tgtAt cbk rowPt gap)

variable (m : (ℓ : Loc nD τ sig) → Buf (Elt Ideal) ℓ)

/-- The input rows, as launched. -/
abbrev inX (c : Dev nD) : FVec Ideal S512x16384 .f32 := m ((c.tc : Thread nD τ).loc main_arg0)

/-- The projection matrix, as launched. -/
abbrev inW (c : Dev nD) : FVec Ideal S256x16384 .f32 := m ((c.tc : Thread nD τ).loc main_arg1)

/-- The codebook, as launched. -/
abbrev inC (c : Dev nD) : FVec Ideal S8192x256 .f32 := m ((c.tc : Thread nD τ).loc main_arg2)

/-- The reference's differences, of the arguments as launched. -/
abbrev inD (c : Dev nD) : FVec Ideal ReferenceIdeal.S512x256x256 .f32 := ReferenceIdeal.Hand.diff (F := Ideal) (inX m c) (inW m c) (inC m c)

/-- The targets in the kernel's scratch, read off the arguments: the normalised projection of an input row. -/
theorem tgt_read (c : Dev nD) (b : Fin 512) (k : Fin 256) :
    tgtAt m c (rowPt b.val b.isLt) (ix2 (⟨b.val % 64, Nat.mod_lt _ (by decide)⟩ : Fin 64) k)
      = norm n256 (fun k : Fin 256 => ∑ f : Fin 16384,
          inX m c (ix2 b f) * inW m c (ix2 k f)) k := by
  refine (tnOf_apply _ _ _ k).trans (congrArg (fun g => norm n256 g k) (funext fun k' => Finset.sum_congr rfl fun f _ => ?_))
  exact congrArg₂ (fun a b : EReal => a * b) (KernelIdeal.Hand.rows_apply m c b f) (KernelIdeal.Hand.proj_block m c _ k' f)

/-- The codebook in the kernel's scratch, read off the arguments: the normalised codebook, its two axes exchanged. -/
theorem book_read (c : Dev nD) (k q : Fin 256) :
    cbk m c (ix2 k q) = norm n65536 (fun p : Fin 256 × Fin 256 =>
      inC m c (ix2 (⟨p.1.val, Nat.lt_trans p.1.isLt (by decide)⟩ : Fin 8192) p.2)) (q, k) := by
  refine (cnOf_apply _ k q).trans (Eq.trans ?_ (norm_equiv (Equiv.prodComm (Fin 256) (Fin 256)) n65536 _ (k, q)))
  exact congrArg (fun g => norm n65536 g (k, q)) (funext fun p => KernelIdeal.Hand.book_block m c _ p.1 p.2)

/-- The differences the kernel searches at an entry are the reference's. -/
theorem gap_eq (c : Dev nD) (b : Fin 512) (q : Fin 256) (k : Nat) :
    gap (tgtAt m c (rowPt b.val b.isLt)) (cbk m c) ⟨b.val % 64, Nat.mod_lt _ (by decide)⟩ q k
      = inD m c (ix3 b q (⟨k % 256, Nat.mod_lt _ (by decide)⟩ : Fin 256)) := by
  unfold gap
  rw [tgt_read, book_read]
  exact (diff_apply _ _ _ b q _).symm

/-- The kernel's result array at an entry is the index of the first least of the reference's differences. -/
theorem result_apply (c : Dev nD) (b : Fin 512) (q : Fin 256) :
    result m c (ix2 b q) = argmin (fun k => inD m c (ix3 b q (⟨k % 256, Nat.mod_lt _ (by decide)⟩ : Fin 256))) 256 := by
  have e : ((fun | 0 => ⟨b.val % 64, Nat.mod_lt _ (by decide)⟩ | 1 => q) : KernelIdeal.S64x256.Idx)
      = ix2 (⟨b.val % 64, Nat.mod_lt _ (by decide)⟩ : Fin 64) q := by
    funext a
    match a with
    | 0 => rfl
    | 1 => rfl
  refine Eq.trans (b := KernelIdeal.Hand.outOf (tgtAt m c (rowPt b.val b.isLt)) (cbk m c) (ix2 (⟨b.val % 64, Nat.mod_lt _ (by decide)⟩ : Fin 64) q)) ?_ ?_
  · exact congrArg (KernelIdeal.Hand.outOf (tgtAt m c (rowPt b.val b.isLt)) (cbk m c)) e
  · rw [KernelIdeal.Hand.outOf_apply]
    exact argmin_congr _ _ 256 fun k _ => gap_eq m c b q k

/-- The kernel's result array is the reference's labels of its arguments. -/
theorem result_eq (c : Dev nD) :
    result m c = ReferenceIdeal.Hand.least (inD m c) := by
  rw [ReferenceIdeal.Hand.least_eq]
  refine funext fun j => ?_
  refine (congrArg (result m c) (eq_ix2 j)).trans ?_
  exact result_apply m c (j 0) (j 1)

end Cert.Equation

end
-- ==== Proof.lean ====
/- The five claims assembled: the three programs' runs, nothing changed between the kernel and its reading over the
   extended reals, and the kernel's labels equal to the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Run
public import proofs.«01_k».proof.Proof.Ref
public import proofs.«01_k».proof.Proof.Equation

@[expose] public section

noncomputable section

namespace Cert.Proof

open Idealize.ShloMosaic Idealize.SL.Sem Cert.Kernel

/-- The five claims: each program's frame, nothing changed between the two readings of the kernel, and the kernel's result
    equal to the reference's at every input. -/
theorem claim : Cert.Claim := ⟨Cert.Kernel.Gen.facts, Cert.KernelIdeal.Gen.facts, Cert.ReferenceIdeal.Gen.facts,
  fun m g _ => Cert.Kernel.Hand.run_frame m g,
  fun m g _ => θ_run_mono (Cert.KernelIdeal.Hand.run_value (F := Ideal) m g) fun r h => ⟨fun c => (h.1 c).2, h.2⟩,
  fun m g _ => Cert.ReferenceIdeal.Hand.run_frame (F := Ideal) m g,
  trivial,
  fun m g m' g' _ hagree => ⟨fun c => Cert.KernelIdeal.Hand.result m c,
    θ_run_mono (Cert.KernelIdeal.Hand.run_value (F := Ideal) m g) fun r h c => h.1 c,
    θ_run_mono (Cert.ReferenceIdeal.Hand.run_value (F := Ideal) m' g') fun r h c => ⟨(h c).1.trans (by
      rw [(hagree c).1, (hagree c).2.1, (hagree c).2.2]
      exact (Cert.Equation.result_eq m c).symm), (h c).2⟩⟩⟩

end Cert.Proof

end
